-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear [hPre_clear : Cert.Pre_clear.Facts] (m : (ℓ : Loc Cert.KernelIdeal.nD Cert.KernelIdeal.τ Cert.KernelIdeal.sig) → Buf (Elt Ideal) ℓ) : Prop :=
  ∀ c : Dev Cert.KernelIdeal.nD,
    (Cert.Pre_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear [hPre_clear : Cert.Pre_clear.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_clear [hKernelIdeal : Cert.KernelIdeal.Facts] [hPre_clear : Cert.Pre_clear.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_clear [hReferenceIdeal : Cert.ReferenceIdeal.Facts] [hPre_clear : Cert.Pre_clear.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "s" .f32 0x416B5EF7#32 ((Real.sqrt (150 * (Real.log 2)⁻¹) : ℝ) : EReal)

def algebraic_KernelIdeal_ReferenceIdeal_pre_clear [hKernelIdeal : Cert.KernelIdeal.Facts] [hReferenceIdeal : Cert.ReferenceIdeal.Facts] [hPre_clear : Cert.Pre_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25_3)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v25_0)) (v3 : (c : Dev Cert.KernelIdeal.nD) → Buf (Elt Ideal) ((c.tc : Thread Cert.KernelIdeal.nD Cert.KernelIdeal.τ).loc Cert.KernelIdeal.main_v25_2)) (v4 : (c : Dev Cert.KernelIdeal.nD) → Buf (Elt Ideal) ((c.tc : Thread Cert.KernelIdeal.nD Cert.KernelIdeal.τ).loc Cert.KernelIdeal.main_v30)) (v5 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_3) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v25_0) = v2 c
          ∧ r.2.mem ((c.tc : Thread Cert.KernelIdeal.nD Cert.KernelIdeal.τ).loc Cert.KernelIdeal.main_v25_2) = v3 c
          ∧ r.2.mem ((c.tc : Thread Cert.KernelIdeal.nD Cert.KernelIdeal.τ).loc Cert.KernelIdeal.main_v30) = v4 c
          ∧ r.2.mem ((c.tc : Thread Cert.KernelIdeal.nD Cert.KernelIdeal.τ).loc Cert.KernelIdeal.main_v25_1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v147) = v3 c
          ∧ r.2.mem ((c.tc : Thread Cert.ReferenceIdeal.nD Cert.ReferenceIdeal.τ).loc Cert.ReferenceIdeal.main_v81) = v4 c
          ∧ r.2.mem ((c.tc : Thread Cert.ReferenceIdeal.nD Cert.ReferenceIdeal.τ).loc Cert.ReferenceIdeal.main_v126) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_clear : Cert.Pre_clear.Facts),
    quiescent_Kernel (hKernel := hKernel)
    ∧ quiescent_KernelIdeal (hKernelIdeal := hKernelIdeal)
    ∧ quiescent_KernelIdeal_pre_clear (hKernelIdeal := hKernelIdeal) (hPre_clear := hPre_clear)
    ∧ quiescent_ReferenceIdeal (hReferenceIdeal := hReferenceIdeal)
    ∧ quiescent_ReferenceIdeal_pre_clear (hReferenceIdeal := hReferenceIdeal) (hPre_clear := hPre_clear)
    ∧ preserves_Kernel_KernelIdeal
    ∧ algebraic_KernelIdeal_ReferenceIdeal_pre_clear (hKernelIdeal := hKernelIdeal) (hReferenceIdeal := hReferenceIdeal) (hPre_clear := hPre_clear)
-- ==== Pre_clear.lean ====
abbrev S4x1152x3 : Shape := ⟨3, ![4, 1152, 3]⟩
abbrev S2304x3 : Shape := ⟨2, ![2304, 3]⟩
abbrev S1152x12 : Shape := ⟨2, ![1152, 12]⟩
abbrev S1152x64 : Shape := ⟨2, ![1152, 64]⟩
abbrev S4x1152x1 : Shape := ⟨3, ![4, 1152, 1]⟩
abbrev S4x1152 : Shape := ⟨2, ![4, 1152]⟩
abbrev S_ : Shape := ⟨0, ![]⟩
abbrev S63 : Shape := ⟨1, ![63]⟩
abbrev S1 : Shape := ⟨1, ![1]⟩
abbrev S64 : Shape := ⟨1, ![64]⟩
abbrev S64x64 : Shape := ⟨2, ![64, 64]⟩
abbrev S1x64x64x1 : Shape := ⟨4, ![1, 64, 64, 1]⟩
abbrev S4x1x1x1152 : Shape := ⟨4, ![4, 1, 1, 1152]⟩
abbrev S4x64x64x1152 : Shape := ⟨4, ![4, 64, 64, 1152]⟩
abbrev S4x64x64x11 : Shape := ⟨4, ![4, 64, 64, 11]⟩
abbrev S4x64x64x10 : Shape := ⟨4, ![4, 64, 64, 10]⟩

class Facts : Prop where
  slices_S4x1152x3_S4x1152x1_0_0_2 : S4x1152x3.Slices ![0, 0, 2] S4x1152x1
  shapeCasts_S4x1152x1_S4x1152 : S4x1152x1.ShapeCasts S4x1152
  bcast_S_S4x1152 : S_.BroadcastsInDim S4x1152 (![] : Fin 0 → Fin S4x1152.rank)
  slices_S4x1152x3_S4x1152x1_0_0_0 : S4x1152x3.Slices ![0, 0, 0] S4x1152x1
  slices_S4x1152x3_S4x1152x1_0_0_1 : S4x1152x3.Slices ![0, 0, 1] S4x1152x1
  bcast_S_S63 : S_.BroadcastsInDim S63 (![] : Fin 0 → Fin S63.rank)
  shapeCasts_S_S1 : S_.ShapeCasts S1
  bcast_S1_S63_0 : S1.BroadcastsInDim S63 (![0] : Fin 1 → Fin S63.rank)
  bcast_S_S1 : S_.BroadcastsInDim S1 (![] : Fin 0 → Fin S1.rank)
  concatenates_S63_S1_S64_d0 : Shape.Concatenates [S63, S1] S64 0
  bcast_S64_S64x64_0 : S64.BroadcastsInDim S64x64 (![0] : Fin 1 → Fin S64x64.rank)
  bcast_S64_S64x64_1 : S64.BroadcastsInDim S64x64 (![1] : Fin 1 → Fin S64x64.rank)
  bcast_S64x64_S1x64x64x1_1_2 : S64x64.BroadcastsInDim S1x64x64x1 (![1, 2] : Fin 2 → Fin S1x64x64x1.rank)
  bcast_S4x1152_S4x1x1x1152_0_3 : S4x1152.BroadcastsInDim S4x1x1x1152 (![0, 3] : Fin 2 → Fin S4x1x1x1152.rank)
  bcast_S1x64x64x1_S4x64x64x1152_0_1_2_3 : S1x64x64x1.BroadcastsInDim S4x64x64x1152 (![0, 1, 2, 3] : Fin 4 → Fin S4x64x64x1152.rank)
  bcast_S4x1x1x1152_S4x64x64x1152_0_1_2_3 : S4x1x1x1152.BroadcastsInDim S4x64x64x1152 (![0, 1, 2, 3] : Fin 4 → Fin S4x64x64x1152.rank)
  bcast_S_S4x64x64x1152 : S_.BroadcastsInDim S4x64x64x1152 (![] : Fin 0 → Fin S4x64x64x1152.rank)
  sliceFits_S4x64x64x1152_S4x64x64x11 : S4x64x64x1152.Slices (fun _ => 0) S4x64x64x11
  slices_S4x64x64x11_S4x64x64x10_0_0_0_0 : S4x64x64x11.Slices ![0, 0, 0, 0] S4x64x64x10
  slices_S4x64x64x11_S4x64x64x10_0_0_0_1 : S4x64x64x11.Slices ![0, 0, 0, 1] S4x64x64x10
  bcast_S_S4x64x64x10 : S_.BroadcastsInDim S4x64x64x10 (![] : Fin 0 → Fin S4x64x64x10.rank)

variable [Facts]

def fn_linspace {F : FTy → Type} [FloatOps F] (arg0 : FVec F S_ .f32) (arg1 : FVec F S_ .f32) : FVec F S64 .f32 :=
  let v0 : FVec F S_ .f32 := id arg0
  let v1 : FVec F S_ .f32 := id arg1
  let v2 : FVec F S_ .f32 := subf v1 v0
  let cst : FVec F S_ .f32 := constant S_ .f32 0x427C0000#32
  let v3 : FVec F S_ .f32 := Host.divf v2 cst
  let v4 : FVec F S63 .f32 := sitofp .f32 (iotaInDim S63 32 0)
  let cst_0 : FVec F S_ .f32 := constant S_ .f32 0x427C0000#32
  let v5 : FVec F S63 .f32 := broadcastInDim S63 ![] bcast_S_S63 cst_0
  let v6 : FVec F S63 .f32 := Host.divf v4 v5
  let v7 : FVec F S1 .f32 := shapeCast S1 v0 shapeCasts_S_S1
  let cst_1 : FVec F S_ .f32 := constant S_ .f32 0x3F800000#32
  let v8 : FVec F S63 .f32 := broadcastInDim S63 ![] bcast_S_S63 cst_1
  let v9 : FVec F S63 .f32 := subf v8 v6
  let v10 : FVec F S63 .f32 := broadcastInDim S63 ![0] bcast_S1_S63_0 v7
  let v11 : FVec F S63 .f32 := mulf v10 v9
  let v12 : FVec F S1 .f32 := shapeCast S1 v1 shapeCasts_S_S1
  let v13 : FVec F S63 .f32 := broadcastInDim S63 ![0] bcast_S1_S63_0 v12
  let v14 : FVec F S63 .f32 := mulf v13 v6
  let v15 : FVec F S63 .f32 := addf v11 v14
  let v16 : FVec F S1 .f32 := broadcastInDim S1 ![] bcast_S_S1 v1
  let v17 : FVec F S64 .f32 := (fun a b => concatenate S64 0 [⟨S63, a⟩, ⟨S1, b⟩] concatenates_S63_S1_S64_d0) v15 v16
  v17

def fn_part2 {F : FTy → Type} [FloatOps F] (main_v31 : FVec F S4x64x64x1152 .f32) (main_v34 : IVec S4x64x64x10 1) (main_v37 : IVec S4x64x64x10 1) : IVec S4x64x64x10 1 × IVec S4x64x64x1152 1 :=
  let main_v38 : IVec S4x64x64x10 1 := ori main_v34 main_v37
  let main_cst_7 : FVec F S_ .f32 := constant S_ .f32 0x38D1B717#32
  let main_v39 : FVec F S4x64x64x1152 .f32 := broadcastInDim S4x64x64x1152 ![] bcast_S_S4x64x64x1152 main_cst_7
  let main_v40 : IVec S4x64x64x1152 1 := cmpf .ole main_v31 main_v39
  let main_cst_8 : FVec F S_ .f32 := constant S_ .f32 0x38D1B718#32
  let main_v41 : FVec F S4x64x64x1152 .f32 := broadcastInDim S4x64x64x1152 ![] bcast_S_S4x64x64x1152 main_cst_8
  let main_v42 : IVec S4x64x64x1152 1 := cmpf .oge main_v31 main_v41
  let main_v43 : IVec S4x64x64x1152 1 := ori main_v40 main_v42
  (main_v38, main_v43)

def fn_part1 {F : FTy → Type} [FloatOps F] (main_v11 : FVec F S4x1152 .f32) (main_v14 : FVec F S64x64 .f32) (main_v16 : FVec F S1x64x64x1 .f32) (main_v17 : FVec F S4x1x1x1152 .f32) : IVec S4x64x64x10 1 × IVec S4x64x64x1152 1 :=
  let main_v18 : FVec F S4x64x64x1152 .f32 := broadcastInDim S4x64x64x1152 ![0, 1, 2, 3] bcast_S1x64x64x1_S4x64x64x1152_0_1_2_3 main_v16
  let main_v19 : FVec F S4x64x64x1152 .f32 := broadcastInDim S4x64x64x1152 ![0, 1, 2, 3] bcast_S4x1x1x1152_S4x64x64x1152_0_1_2_3 main_v17
  let main_v20 : FVec F S4x64x64x1152 .f32 := subf main_v18 main_v19
  let main_v21 : FVec F S4x64x64x1152 .f32 := mulf main_v20 main_v20
  let main_v22 : FVec F S1x64x64x1 .f32 := broadcastInDim S1x64x64x1 ![1, 2] bcast_S64x64_S1x64x64x1_1_2 main_v14
  let main_v23 : FVec F S4x1x1x1152 .f32 := broadcastInDim S4x1x1x1152 ![0, 3] bcast_S4x1152_S4x1x1x1152_0_3 main_v11
  let main_v24 : FVec F S4x64x64x1152 .f32 := broadcastInDim S4x64x64x1152 ![0, 1, 2, 3] bcast_S1x64x64x1_S4x64x64x1152_0_1_2_3 main_v22
  let main_v25 : FVec F S4x64x64x1152 .f32 := broadcastInDim S4x64x64x1152 ![0, 1, 2, 3] bcast_S4x1x1x1152_S4x64x64x1152_0_1_2_3 main_v23
  let main_v26 : FVec F S4x64x64x1152 .f32 := subf main_v24 main_v25
  let main_v27 : FVec F S4x64x64x1152 .f32 := mulf main_v26 main_v26
  let main_v28 : FVec F S4x64x64x1152 .f32 := addf main_v21 main_v27
  let main_cst_5 : FVec F S_ .f32 := constant S_ .f32 0xC3160000#32
  let main_v29 : FVec F S4x64x64x1152 .f32 := broadcastInDim S4x64x64x1152 ![] bcast_S_S4x64x64x1152 main_cst_5
  let main_v30 : FVec F S4x64x64x1152 .f32 := mulf main_v29 main_v28
  let main_v31 : FVec F S4x64x64x1152 .f32 := Host.exp main_v30
  let main_values : FVec F S4x64x64x11 .f32 := (fun x => (Host.topK S4x64x64x11 3 (FloatOps.cmpfTotal .gt) x sliceFits_S4x64x64x1152_S4x64x64x11).1) main_v31
  let main_indices : IVec S4x64x64x11 32 := (fun x => (Host.topK S4x64x64x11 3 (FloatOps.cmpfTotal .gt) x sliceFits_S4x64x64x1152_S4x64x64x11).2) main_v31
  let main_v32 : FVec F S4x64x64x10 .f32 := (extractStridedSlice S4x64x64x10 ![0, 0, 0, 0] · slices_S4x64x64x11_S4x64x64x10_0_0_0_0) main_values
  let main_v33 : FVec F S4x64x64x10 .f32 := (extractStridedSlice S4x64x64x10 ![0, 0, 0, 1] · slices_S4x64x64x11_S4x64x64x10_0_0_0_1) main_values
  let main_v34 : IVec S4x64x64x10 1 := cmpf .ogt main_v32 main_v33
  let main_v35 : FVec F S4x64x64x10 .f32 := (extractStridedSlice S4x64x64x10 ![0, 0, 0, 0] · slices_S4x64x64x11_S4x64x64x10_0_0_0_0) main_values
  let main_cst_6 : FVec F S_ .f32 := constant S_ .f32 0x38D1B717#32
  let main_v36 : FVec F S4x64x64x10 .f32 := broadcastInDim S4x64x64x10 ![] bcast_S_S4x64x64x10 main_cst_6
  let main_v37 : IVec S4x64x64x10 1 := cmpf .ole main_v35 main_v36
  fn_part2 (F := F) main_v31 main_v34 main_v37

def fn {F : FTy → Type} [FloatOps F] (main_arg0 : FVec F S4x1152x3 .f32) (main_arg1 : IVec S2304x3 32) (main_arg2 : FVec F S1152x12 .f32) (main_arg3 : FVec F S1152x12 .f32) (main_arg4 : FVec F S1152x64 .f32) : IVec S4x64x64x10 1 × IVec S4x64x64x1152 1 :=
  let main_v0 : FVec F S4x1152x1 .f32 := (extractStridedSlice S4x1152x1 ![0, 0, 2] · slices_S4x1152x3_S4x1152x1_0_0_2) main_arg0
  let main_v1 : FVec F S4x1152 .f32 := shapeCast S4x1152 main_v0 shapeCasts_S4x1152x1_S4x1152
  let main_cst : FVec F S_ .f32 := constant S_ .f32 0x40A00000#32
  let main_v2 : FVec F S4x1152 .f32 := broadcastInDim S4x1152 ![] bcast_S_S4x1152 main_cst
  let main_v3 : FVec F S4x1152 .f32 := addf main_v1 main_v2
  let main_cst_0 : FVec F S_ .f32 := constant S_ .f32 0x3F000000#32
  let main_v4 : FVec F S4x1152 .f32 := broadcastInDim S4x1152 ![] bcast_S_S4x1152 main_cst_0
  let main_v5 : FVec F S4x1152 .f32 := maximumf main_v3 main_v4
  let main_v6 : FVec F S4x1152x1 .f32 := (extractStridedSlice S4x1152x1 ![0, 0, 0] · slices_S4x1152x3_S4x1152x1_0_0_0) main_arg0
  let main_v7 : FVec F S4x1152 .f32 := shapeCast S4x1152 main_v6 shapeCasts_S4x1152x1_S4x1152
  let main_v8 : FVec F S4x1152 .f32 := Host.divf main_v7 main_v5
  let main_v9 : FVec F S4x1152x1 .f32 := (extractStridedSlice S4x1152x1 ![0, 0, 1] · slices_S4x1152x3_S4x1152x1_0_0_1) main_arg0
  let main_v10 : FVec F S4x1152 .f32 := shapeCast S4x1152 main_v9 shapeCasts_S4x1152x1_S4x1152
  let main_v11 : FVec F S4x1152 .f32 := Host.divf main_v10 main_v5
  let main_cst_1 : FVec F S_ .f32 := constant S_ .f32 0xBF800000#32
  let main_cst_2 : FVec F S_ .f32 := constant S_ .f32 0x3F800000#32
  let main_v12 : FVec F S64 .f32 := fn_linspace (F := F) main_cst_1 main_cst_2
  let main_cst_3 : FVec F S_ .f32 := constant S_ .f32 0xBF800000#32
  let main_cst_4 : FVec F S_ .f32 := constant S_ .f32 0x3F800000#32
  let main_v13 : FVec F S64 .f32 := fn_linspace (F := F) main_cst_3 main_cst_4
  let main_v14 : FVec F S64x64 .f32 := broadcastInDim S64x64 ![0] bcast_S64_S64x64_0 main_v13
  let main_v15 : FVec F S64x64 .f32 := broadcastInDim S64x64 ![1] bcast_S64_S64x64_1 main_v12
  let main_v16 : FVec F S1x64x64x1 .f32 := broadcastInDim S1x64x64x1 ![1, 2] bcast_S64x64_S1x64x64x1_1_2 main_v15
  let main_v17 : FVec F S4x1x1x1152 .f32 := broadcastInDim S4x1x1x1152 ![0, 3] bcast_S4x1152_S4x1x1x1152_0_3 main_v8
  fn_part1 (F := F) main_v11 main_v14 main_v16 main_v17
-- ==== Kernel.lean ====
abbrev S4x1152x3 : Shape := ⟨3, ![4, 1152, 3]⟩
abbrev S2304x3 : Shape := ⟨2, ![2304, 3]⟩
abbrev S1152x12 : Shape := ⟨2, ![1152, 12]⟩
abbrev S1152x64 : Shape := ⟨2, ![1152, 64]⟩
abbrev S64x224 : Shape := ⟨2, ![64, 224]⟩
abbrev S4x1152x1 : Shape := ⟨3, ![4, 1152, 1]⟩
abbrev S4x1152 : Shape := ⟨2, ![4, 1152]⟩
abbrev S_ : Shape := ⟨0, ![]⟩
abbrev S63 : Shape := ⟨1, ![63]⟩
abbrev S1 : Shape := ⟨1, ![1]⟩
abbrev S64 : Shape := ⟨1, ![64]⟩
abbrev S64x64 : Shape := ⟨2, ![64, 64]⟩
abbrev S1x4096 : Shape := ⟨2, ![1, 4096]⟩
abbrev S12x1152 : Shape := ⟨2, ![12, 1152]⟩
abbrev S64x1152 : Shape := ⟨2, ![64, 1152]⟩
abbrev S1x1152 : Shape := ⟨2, ![1, 1152]⟩
abbrev S89x1152 : Shape := ⟨2, ![89, 1152]⟩
abbrev S4x12x224x224 : Shape := ⟨4, ![4, 12, 224, 224]⟩
abbrev S4x64x224x224 : Shape := ⟨4, ![4, 64, 224, 224]⟩
abbrev S4x224x224 : Shape := ⟨3, ![4, 224, 224]⟩
abbrev S4x1x4096 : Shape := ⟨3, ![4, 1, 4096]⟩
abbrev S1x1152x1 : Shape := ⟨3, ![1, 1152, 1]⟩
abbrev S1x2048 : Shape := ⟨2, ![1, 2048]⟩
abbrev S1x12x112x224 : Shape := ⟨4, ![1, 12, 112, 224]⟩
abbrev S1x64x112x224 : Shape := ⟨4, ![1, 64, 112, 224]⟩
abbrev S1x112x224 : Shape := ⟨3, ![1, 112, 224]⟩
abbrev S1x1x2048 : Shape := ⟨3, ![1, 1, 2048]⟩
abbrev S1152x1 : Shape := ⟨2, ![1152, 1]⟩
abbrev S1152x2048 : Shape := ⟨2, ![1152, 2048]⟩
abbrev S2048 : Shape := ⟨1, ![2048]⟩
abbrev S89x2048 : Shape := ⟨2, ![89, 2048]⟩
abbrev S12x2048 : Shape := ⟨2, ![12, 2048]⟩
abbrev S64x2048 : Shape := ⟨2, ![64, 2048]⟩
abbrev S90x2048 : Shape := ⟨2, ![90, 2048]⟩
abbrev S90x64 : Shape := ⟨2, ![90, 64]⟩
abbrev S90x224 : Shape := ⟨2, ![90, 224]⟩
abbrev S12x224 : Shape := ⟨2, ![12, 224]⟩
abbrev S12x1x224 : Shape := ⟨3, ![12, 1, 224]⟩
abbrev S12x3x224 : Shape := ⟨3, ![12, 3, 224]⟩
abbrev S1x12x3x224 : Shape := ⟨4, ![1, 12, 3, 224]⟩
abbrev S64x1x224 : Shape := ⟨3, ![64, 1, 224]⟩
abbrev S64x3x224 : Shape := ⟨3, ![64, 3, 224]⟩
abbrev S1x64x3x224 : Shape := ⟨4, ![1, 64, 3, 224]⟩
abbrev S1x224 : Shape := ⟨2, ![1, 224]⟩
abbrev S224 : Shape := ⟨1, ![224]⟩
abbrev S3x224 : Shape := ⟨2, ![3, 224]⟩
abbrev S1x3x224 : Shape := ⟨3, ![1, 3, 224]⟩
abbrev S12x4x224 : Shape := ⟨3, ![12, 4, 224]⟩
abbrev S1x12x4x224 : Shape := ⟨4, ![1, 12, 4, 224]⟩
abbrev S64x4x224 : Shape := ⟨3, ![64, 4, 224]⟩
abbrev S1x64x4x224 : Shape := ⟨4, ![1, 64, 4, 224]⟩
abbrev S4x224 : Shape := ⟨2, ![4, 224]⟩
abbrev S1x4x224 : Shape := ⟨3, ![1, 4, 224]⟩
abbrev S1152 : Shape := ⟨1, ![1152]⟩
abbrev S4x64x64 : Shape := ⟨3, ![4, 64, 64]⟩

abbrev nBuf : Space → Nat
  | .hbm => 90
  | .vmem => 22
  | .smem => 0
  | _ => 0

abbrev bufTy : (tb : Table) → Fin (tcTables nBuf tb) → BufTy
  | .hbm, ⟨0, _⟩ => ⟨S4x1152x3, .f32⟩
  | .hbm, ⟨1, _⟩ => ⟨S2304x3, .i32⟩
  | .hbm, ⟨2, _⟩ => ⟨S1152x12, .f32⟩
  | .hbm, ⟨3, _⟩ => ⟨S1152x12, .f32⟩
  | .hbm, ⟨4, _⟩ => ⟨S1152x64, .f32⟩
  | .hbm, ⟨5, _⟩ => ⟨S64x224, .f32⟩
  | .hbm, ⟨6, _⟩ => ⟨S4x1152x1, .f32⟩
  | .hbm, ⟨7, _⟩ => ⟨S4x1152, .f32⟩
  | .hbm, ⟨8, _⟩ => ⟨S_, .f32⟩
  | .hbm, ⟨9, _⟩ => ⟨S4x1152, .f32⟩
  | .hbm, ⟨10, _⟩ => ⟨S4x1152, .f32⟩
  | .hbm, ⟨11, _⟩ => ⟨S_, .f32⟩
  | .hbm, ⟨12, _⟩ => ⟨S4x1152, .f32⟩
  | .hbm, ⟨13, _⟩ => ⟨S4x1152, .f32⟩
  | .hbm, ⟨14, _⟩ => ⟨S4x1152x1, .f32⟩
  | .hbm, ⟨15, _⟩ => ⟨S4x1152, .f32⟩
  | .hbm, ⟨16, _⟩ => ⟨S4x1152, .f32⟩
  | .hbm, ⟨17, _⟩ => ⟨S4x1152x1, .f32⟩
  | .hbm, ⟨18, _⟩ => ⟨S4x1152x1, .f32⟩
  | .hbm, ⟨19, _⟩ => ⟨S4x1152, .f32⟩
  | .hbm, ⟨20, _⟩ => ⟨S4x1152, .f32⟩
  | .hbm, ⟨21, _⟩ => ⟨S4x1152x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S63, .f32⟩
  | .hbm, ⟨30, _⟩ => ⟨S_, .f32⟩
  | .hbm, ⟨31, _⟩ => ⟨S63, .f32⟩
  | .hbm, ⟨32, _⟩ => ⟨S63, .f32⟩
  | .hbm, ⟨33, _⟩ => ⟨S1, .f32⟩
  | .hbm, ⟨34, _⟩ => ⟨S_, .f32⟩
  | .hbm, ⟨35, _⟩ => ⟨S63, .f32⟩
  | .hbm, ⟨36, _⟩ => ⟨S63, .f32⟩
  | .hbm, ⟨37, _⟩ => ⟨S63, .f32⟩
  | .hbm, ⟨38, _⟩ => ⟨S63, .f32⟩
  | .hbm, ⟨39, _⟩ => ⟨S1, .f32⟩
  | .hbm, ⟨40, _⟩ => ⟨S63, .f32⟩
  | .hbm, ⟨41, _⟩ => ⟨S63, .f32⟩
  | .hbm, ⟨42, _⟩ => ⟨S63, .f32⟩
  | .hbm, ⟨43, _⟩ => ⟨S1, .f32⟩
  | .hbm, ⟨44, _⟩ => ⟨S64, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S63, .f32⟩
  | .hbm, ⟨53, _⟩ => ⟨S_, .f32⟩
  | .hbm, ⟨54, _⟩ => ⟨S63, .f32⟩
  | .hbm, ⟨55, _⟩ => ⟨S63, .f32⟩
  | .hbm, ⟨56, _⟩ => ⟨S1, .f32⟩
  | .hbm, ⟨57, _⟩ => ⟨S_, .f32⟩
  | .hbm, ⟨58, _⟩ => ⟨S63, .f32⟩
  | .hbm, ⟨59, _⟩ => ⟨S63, .f32⟩
  | .hbm, ⟨60, _⟩ => ⟨S63, .f32⟩
  | .hbm, ⟨61, _⟩ => ⟨S63, .f32⟩
  | .hbm, ⟨62, _⟩ => ⟨S1, .f32⟩
  | .hbm, ⟨63, _⟩ => ⟨S63, .f32⟩
  | .hbm, ⟨64, _⟩ => ⟨S63, .f32⟩
  | .hbm, ⟨65, _⟩ => ⟨S63, .f32⟩
  | .hbm, ⟨66, _⟩ => ⟨S1, .f32⟩
  | .hbm, ⟨67, _⟩ => ⟨S64, .f32⟩
  | .hbm, ⟨68, _⟩ => ⟨S64x64, .f32⟩
  | .hbm, ⟨69, _⟩ => ⟨S64x64, .f32⟩
  | .hbm, ⟨70, _⟩ => ⟨S1x4096, .f32⟩
  | .hbm, ⟨71, _⟩ => ⟨S1x4096, .f32⟩
  | .hbm, ⟨72, _⟩ => ⟨S12x1152, .f32⟩
  | .hbm, ⟨73, _⟩ => ⟨S12x1152, .f32⟩
  | .hbm, ⟨74, _⟩ => ⟨S64x1152, .f32⟩
  | .hbm, ⟨75, _⟩ => ⟨S_, .f32⟩
  | .hbm, ⟨76, _⟩ => ⟨S1x1152, .f32⟩
  | .hbm, ⟨77, _⟩ => ⟨S89x1152, .f32⟩
  | .hbm, ⟨78, _⟩ => ⟨S4x12x224x224, .f32⟩
  | .hbm, ⟨79, _⟩ => ⟨S4x12x224x224, .f32⟩
  | .hbm, ⟨80, _⟩ => ⟨S4x64x224x224, .f32⟩
  | .hbm, ⟨81, _⟩ => ⟨S4x224x224, .f32⟩
  | .hbm, ⟨82, _⟩ => ⟨S4x1x4096, .f32⟩
  | .hbm, ⟨83, _⟩ => ⟨S4x1152x1, .f32⟩
  | .hbm, ⟨84, _⟩ => ⟨S4x64x64, .f32⟩
  | .hbm, ⟨85, _⟩ => ⟨S4x1152, .f32⟩
  | .hbm, ⟨86, _⟩ => ⟨S_, .f32⟩
  | .hbm, ⟨87, _⟩ => ⟨S4x1152, .f32⟩
  | .hbm, ⟨88, _⟩ => ⟨S4x1152, .i1⟩
  | .hbm, ⟨89, _⟩ => ⟨S4x1152, .i32⟩
  | .local _ .vmem, ⟨0, _⟩ => ⟨S1x1152x1, .f32⟩
  | .local _ .vmem, ⟨1, _⟩ => ⟨S1x1152x1, .f32⟩
  | .local _ .vmem, ⟨2, _⟩ => ⟨S1x1152x1, .f32⟩
  | .local _ .vmem, ⟨3, _⟩ => ⟨S1x1152x1, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S89x1152, .f32⟩
  | .local _ .vmem, ⟨9, _⟩ => ⟨S64x224, .f32⟩
  | .local _ .vmem, ⟨10, _⟩ => ⟨S1x12x112x224, .f32⟩
  | .local _ .vmem, ⟨11, _⟩ => ⟨S1x12x112x224, .f32⟩
  | .local _ .vmem, ⟨12, _⟩ => ⟨S1x12x112x224, .f32⟩
  | .local _ .vmem, ⟨13, _⟩ => ⟨S1x12x112x224, .f32⟩
  | .local _ .vmem, ⟨14, _⟩ => ⟨S1x64x112x224, .f32⟩
  | .local _ .vmem, ⟨15, _⟩ => ⟨S1x64x112x224, .f32⟩
  | .local _ .vmem, ⟨16, _⟩ => ⟨S1x112x224, .f32⟩
  | .local _ .vmem, ⟨17, _⟩ => ⟨S1x112x224, .f32⟩
  | .local _ .vmem, ⟨18, _⟩ => ⟨S1x1x2048, .f32⟩
  | .local _ .vmem, ⟨19, _⟩ => ⟨S1x1x2048, .f32⟩
  | .local _ .vmem, ⟨20, _⟩ => ⟨S1x1152x1, .f32⟩
  | .local _ .vmem, ⟨21, _⟩ => ⟨S1x1152x1, .f32⟩
  | _, _ => ⟨S4x1152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_cst : Ref sig .tc := ⟨.hbm, 27, rfl⟩
abbrev main_call0_v3 : Ref sig .tc := ⟨.hbm, 28, rfl⟩
abbrev main_call0_v4 : Ref sig .tc := ⟨.hbm, 29, rfl⟩
abbrev main_call0_cst_0 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_v15 : Ref sig .tc := ⟨.hbm, 42, rfl⟩
abbrev main_call0_v16 : Ref sig .tc := ⟨.hbm, 43, rfl⟩
abbrev main_v14 : Ref sig .tc := ⟨.hbm, 44, rfl⟩
abbrev main_cst_4 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_cst : Ref sig .tc := ⟨.hbm, 50, rfl⟩
abbrev main_call1_v3 : Ref sig .tc := ⟨.hbm, 51, rfl⟩
abbrev main_call1_v4 : Ref sig .tc := ⟨.hbm, 52, rfl⟩
abbrev main_call1_cst_0 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_cst_1 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_v15 : Ref sig .tc := ⟨.hbm, 65, rfl⟩
abbrev main_call1_v16 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_cst_6 : Ref sig .tc := ⟨.hbm, 75, rfl⟩
abbrev main_v23 : Ref sig .tc := ⟨.hbm, 76, rfl⟩
abbrev main_v24 : Ref sig .tc := ⟨.hbm, 77, rfl⟩
abbrev main_v25_0 : Ref sig .tc := ⟨.hbm, 78, rfl⟩
abbrev main_v25_1 : Ref sig .tc := ⟨.hbm, 79, rfl⟩
abbrev main_v25_2 : Ref sig .tc := ⟨.hbm, 80, rfl⟩
abbrev main_v25_3 : Ref sig .tc := ⟨.hbm, 81, rfl⟩
abbrev main_v25_4 : Ref sig .tc := ⟨.hbm, 82, rfl⟩
abbrev main_v25_5 : Ref sig .tc := ⟨.hbm, 83, rfl⟩
abbrev main_v26 : Ref sig .tc := ⟨.hbm, 84, rfl⟩
abbrev main_v27 : Ref sig .tc := ⟨.hbm, 85, rfl⟩
abbrev main_cst_7 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v1122 : BitVec 1 := Scalar.cmpi .eq arg1 c0_i32
  let v1123 : BitVec 32 := Scalar.extui v1122
  let c0_i32_531 : BitVec 32 := 0#32
  let v1124 : BitVec 1 := Scalar.cmpi .ne v1123 c0_i32_531
  v1124

def k0_cond2 (i : grid0.Coords) : BitVec 1 :=
  let arg1 : BitVec 32 := BitVec.ofNat 32 (i 1).val
  let c0_i32_532 : BitVec 32 := 0#32
  let v1125 : BitVec 1 := Scalar.cmpi .sgt arg1 c0_i32_532
  let v1126 : BitVec 32 := Scalar.extui v1125
  let c0_i32_533 : BitVec 32 := 0#32
  let v1127 : BitVec 1 := Scalar.cmpi .ne v1126 c0_i32_533
  v1127

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1152x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1152x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S89x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x224 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x12x112x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x12x112x224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x112x224 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x112x224 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1152x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "s" => some ((Real.sqrt (150 * (Real.log 2)⁻¹) : ℝ) : EReal)
  | _ => none
-- ==== ReferenceIdeal.lean ====
abbrev S4x1152x3 : Shape := ⟨3, ![4, 1152, 3]⟩
abbrev S2304x3 : Shape := ⟨2, ![2304, 3]⟩
abbrev S1152x12 : Shape := ⟨2, ![1152, 12]⟩
abbrev S1152x64 : Shape := ⟨2, ![1152, 64]⟩
abbrev S4x1152x1 : Shape := ⟨3, ![4, 1152, 1]⟩
abbrev S4x1152 : Shape := ⟨2, ![4, 1152]⟩
abbrev S_ : Shape := ⟨0, ![]⟩
abbrev S63 : Shape := ⟨1, ![63]⟩
abbrev S1 : Shape := ⟨1, ![1]⟩
abbrev S64 : Shape := ⟨1, ![64]⟩
abbrev S64x64 : Shape := ⟨2, ![64, 64]⟩
abbrev S1x64x64x1 : Shape := ⟨4, ![1, 64, 64, 1]⟩
abbrev S4x1x1x1152 : Shape := ⟨4, ![4, 1, 1, 1152]⟩
abbrev S4x64x64x1152 : Shape := ⟨4, ![4, 64, 64, 1152]⟩
abbrev S4x64x64x10 : Shape := ⟨4, ![4, 64, 64, 10]⟩
abbrev S4 : Shape := ⟨1, ![4]⟩
abbrev S4x1x1x1 : Shape := ⟨4, ![4, 1, 1, 1]⟩
abbrev S4x64x64x1 : Shape := ⟨4, ![4, 64, 64, 1]⟩
abbrev S4x64x64 : Shape := ⟨3, ![4, 64, 64]⟩
abbrev S224 : Shape := ⟨1, ![224]⟩
abbrev S224x1 : Shape := ⟨2, ![224, 1]⟩
abbrev S4x224x64 : Shape := ⟨3, ![4, 224, 64]⟩
abbrev S4x224x224 : Shape := ⟨3, ![4, 224, 224]⟩
abbrev S4x40960 : Shape := ⟨2, ![4, 40960]⟩
abbrev S4x1 : Shape := ⟨2, ![4, 1]⟩
abbrev S4x1153 : Shape := ⟨2, ![4, 1153]⟩
abbrev S4x40960x1 : Shape := ⟨3, ![4, 40960, 1]⟩
abbrev S4x40960x2 : Shape := ⟨3, ![4, 40960, 2]⟩
abbrev S4x64x64x10x1 : Shape := ⟨5, ![4, 64, 64, 10, 1]⟩
abbrev S4x64x64x10x12 : Shape := ⟨5, ![4, 64, 64, 10, 12]⟩
abbrev S4x64x64x12 : Shape := ⟨4, ![4, 64, 64, 12]⟩
abbrev S4x12x64x64 : Shape := ⟨4, ![4, 12, 64, 64]⟩
abbrev S4x12x224x64 : Shape := ⟨4, ![4, 12, 224, 64]⟩
abbrev S4x12x224x224 : Shape := ⟨4, ![4, 12, 224, 224]⟩
abbrev S4x1x224x224 : Shape := ⟨4, ![4, 1, 224, 224]⟩
abbrev S4x64x64x10x64 : Shape := ⟨5, ![4, 64, 64, 10, 64]⟩
abbrev S4x64x64x64 : Shape := ⟨4, ![4, 64, 64, 64]⟩
abbrev S4x64x224x64 : Shape := ⟨4, ![4, 64, 224, 64]⟩
abbrev S4x64x224x224 : Shape := ⟨4, ![4, 64, 224, 224]⟩

abbrev nBuf : Space → Nat
  | .hbm => 439
  | .vmem => 0
  | .smem => 0
  | _ => 0

abbrev hbmTy0_0 (i : Nat) : BufTy := match i % 128 with
  | 0 => ⟨S4x1152x3, .f32⟩
  | 1 => ⟨S2304x3, .i32⟩
  | 2 => ⟨S1152x12, .f32⟩
  | 3 => ⟨S1152x12, .f32⟩
  | 4 => ⟨S1152x64, .f32⟩
  | 5 => ⟨S4x1152x1, .f32⟩
  | 6 => ⟨S4x1152, .f32⟩
  | 7 => ⟨S_, .f32⟩
  | 8 => ⟨S4x1152, .f32⟩
  | 9 => ⟨S4x1152, .f32⟩
  | 10 => ⟨S_, .f32⟩
  | 11 => ⟨S4x1152, .f32⟩
  | 12 => ⟨S4x1152, .f32⟩
  | 13 => ⟨S4x1152x1, .f32⟩
  | 14 => ⟨S4x1152, .f32⟩
  | 15 => ⟨S4x1152, .f32⟩
  | 16 => ⟨S4x1152x1, .f32⟩
  | 17 => ⟨S4x1152, .f32⟩
  | 18 => ⟨S4x1152, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S63, .f32⟩
  | 27 => ⟨S_, .f32⟩
  | 28 => ⟨S63, .f32⟩
  | 29 => ⟨S63, .f32⟩
  | 30 => ⟨S1, .f32⟩
  | 31 => ⟨S_, .f32⟩
  | 32 => ⟨S63, .f32⟩
  | 33 => ⟨S63, .f32⟩
  | 34 => ⟨S63, .f32⟩
  | 35 => ⟨S63, .f32⟩
  | 36 => ⟨S1, .f32⟩
  | 37 => ⟨S63, .f32⟩
  | 38 => ⟨S63, .f32⟩
  | 39 => ⟨S63, .f32⟩
  | 40 => ⟨S1, .f32⟩
  | 41 => ⟨S64, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S63, .f32⟩
  | 50 => ⟨S_, .f32⟩
  | 51 => ⟨S63, .f32⟩
  | 52 => ⟨S63, .f32⟩
  | 53 => ⟨S1, .f32⟩
  | 54 => ⟨S_, .f32⟩
  | 55 => ⟨S63, .f32⟩
  | 56 => ⟨S63, .f32⟩
  | 57 => ⟨S63, .f32⟩
  | 58 => ⟨S63, .f32⟩
  | 59 => ⟨S1, .f32⟩
  | 60 => ⟨S63, .f32⟩
  | 61 => ⟨S63, .f32⟩
  | 62 => ⟨S63, .f32⟩
  | 63 => ⟨S1, .f32⟩
  | 64 => ⟨S64, .f32⟩
  | 65 => ⟨S64x64, .f32⟩
  | 66 => ⟨S64x64, .f32⟩
  | 67 => ⟨S1x64x64x1, .f32⟩
  | 68 => ⟨S4x1x1x1152, .f32⟩
  | 69 => ⟨S4x64x64x1152, .f32⟩
  | 70 => ⟨S4x64x64x1152, .f32⟩
  | 71 => ⟨S4x64x64x1152, .f32⟩
  | 72 => ⟨S4x64x64x1152, .f32⟩
  | 73 => ⟨S1x64x64x1, .f32⟩
  | 74 => ⟨S4x1x1x1152, .f32⟩
  | 75 => ⟨S4x64x64x1152, .f32⟩
  | 76 => ⟨S4x64x64x1152, .f32⟩
  | 77 => ⟨S4x64x64x1152, .f32⟩
  | 78 => ⟨S4x64x64x1152, .f32⟩
  | 79 => ⟨S4x64x64x1152, .f32⟩
  | 80 => ⟨S_, .f32⟩
  | 81 => ⟨S4x64x64x1152, .f32⟩
  | 82 => ⟨S4x64x64x1152, .f32⟩
  | 83 => ⟨S4x64x64x1152, .f32⟩
  | 84 => ⟨S4x64x64x10, .f32⟩
  | 85 => ⟨S4x64x64x10, .i32⟩
  | 86 => ⟨S4, .i32⟩
  | 87 => ⟨S_, .i32⟩
  | 88 => ⟨S4, .i32⟩
  | 89 => ⟨S4, .i32⟩
  | 90 => ⟨S4x1x1x1, .i32⟩
  | 91 => ⟨S_, .f32⟩
  | 92 => ⟨S4x64x64x10, .f32⟩
  | 93 => ⟨S4x64x64x10, .i1⟩
  | 94 => ⟨S4x64x64x10, .i32⟩
  | 95 => ⟨S4x64x64x10, .i32⟩
  | 96 => ⟨S_, .i32⟩
  | 97 => ⟨S_, .i32⟩
  | 98 => ⟨S4x64x64x10, .i32⟩
  | 99 => ⟨S4x64x64x10, .i32⟩
  | 100 => ⟨S_, .f32⟩
  | 101 => ⟨S4x64x64x10, .f32⟩
  | 102 => ⟨S4x64x64x10, .i1⟩
  | 103 => ⟨S_, .f32⟩
  | 104 => ⟨S_, .f32⟩
  | 105 => ⟨S4x64x64x10, .f32⟩
  | 106 => ⟨S4x64x64x10, .f32⟩
  | 107 => ⟨S_, .i32⟩
  | 108 => ⟨S4x64x64x10, .i32⟩
  | 109 => ⟨S4x64x64x10, .i1⟩
  | 110 => ⟨S4x64x64x10, .f32⟩
  | 111 => ⟨S4x64x64x1, .f32⟩
  | 112 => ⟨S4x64x64, .f32⟩
  | 113 => ⟨S224, .f32⟩
  | 114 => ⟨S_, .f32⟩
  | 115 => ⟨S224, .f32⟩
  | 116 => ⟨S224, .f32⟩
  | 117 => ⟨S_, .f32⟩
  | 118 => ⟨S224, .f32⟩
  | 119 => ⟨S224, .f32⟩
  | 120 => ⟨S_, .f32⟩
  | 121 => ⟨S224, .f32⟩
  | 122 => ⟨S224, .f32⟩
  | 123 => ⟨S224, .f32⟩
  | 124 => ⟨S224, .i32⟩
  | 125 => ⟨S_, .i32⟩
  | 126 => ⟨S224, .i32⟩
  | 127 => ⟨S224, .i1⟩
  | _ => ⟨S4x1152x3, .f32⟩

abbrev hbmTy0_1 (i : Nat) : BufTy := match i % 128 with
  | 0 => ⟨S_, .i32⟩
  | 1 => ⟨S224, .i32⟩
  | 2 => ⟨S224, .i32⟩
  | 3 => ⟨S224, .i32⟩
  | 4 => ⟨S224x1, .i32⟩
  | 5 => ⟨S4x224x64, .f32⟩
  | 6 => ⟨S224, .f32⟩
  | 7 => ⟨S_, .f32⟩
  | 8 => ⟨S224, .f32⟩
  | 9 => ⟨S224, .f32⟩
  | 10 => ⟨S_, .f32⟩
  | 11 => ⟨S224, .f32⟩
  | 12 => ⟨S224, .f32⟩
  | 13 => ⟨S_, .f32⟩
  | 14 => ⟨S224, .f32⟩
  | 15 => ⟨S224, .f32⟩
  | 16 => ⟨S224, .f32⟩
  | 17 => ⟨S224, .i32⟩
  | 18 => ⟨S_, .i32⟩
  | 19 => ⟨S224, .i32⟩
  | 20 => ⟨S224, .i1⟩
  | 21 => ⟨S_, .i32⟩
  | 22 => ⟨S224, .i32⟩
  | 23 => ⟨S224, .i32⟩
  | 24 => ⟨S224, .i32⟩
  | 25 => ⟨S224x1, .i32⟩
  | 26 => ⟨S4x224x224, .f32⟩
  | 27 => ⟨S_, .f32⟩
  | 28 => ⟨S4x64x64, .f32⟩
  | 29 => ⟨S_, .f32⟩
  | 30 => ⟨S_, .f32⟩
  | 31 => ⟨S_, .f32⟩
  | 32 => ⟨S4x64x64, .f32⟩
  | 33 => ⟨S4x64x64, .f32⟩
  | 34 => ⟨S_, .f32⟩
  | 35 => ⟨S4x64x64, .f32⟩
  | 36 => ⟨S4x64x64, .f32⟩
  | 37 => ⟨S4x40960, .i32⟩
  | 38 => ⟨S4, .i32⟩
  | 39 => ⟨S_, .i32⟩
  | 40 => ⟨S4, .i32⟩
  | 41 => ⟨S4, .i32⟩
  | 42 => ⟨S4x1, .i32⟩
  | 43 => ⟨S4x40960, .i32⟩
  | 44 => ⟨S4x40960, .i32⟩
  | 45 => ⟨S_, .i32⟩
  | 46 => ⟨S_, .i32⟩
  | 47 => ⟨S_, .i32⟩
  | 48 => ⟨S4x40960, .i32⟩
  | 49 => ⟨S4x40960, .i32⟩
  | 50 => ⟨S_, .i32⟩
  | 51 => ⟨S4x40960, .i32⟩
  | 52 => ⟨S4x40960, .i32⟩
  | 53 => ⟨S_, .i32⟩
  | 54 => ⟨S4x40960, .i32⟩
  | 55 => ⟨S4x40960, .i32⟩
  | 56 => ⟨S_, .i32⟩
  | 57 => ⟨S4x1153, .i32⟩
  | 58 => ⟨S4, .i32⟩
  | 59 => ⟨S4x1, .i32⟩
  | 60 => ⟨S_, .i32⟩
  | 61 => ⟨S4x1, .i32⟩
  | 62 => ⟨S4x1, .i1⟩
  | 63 => ⟨S_, .i32⟩
  | 64 => ⟨S4x1, .i32⟩
  | 65 => ⟨S4x1, .i32⟩
  | 66 => ⟨S4x1, .i32⟩
  | 67 => ⟨S_, .i32⟩
  | 68 => ⟨S4x40960, .i32⟩
  | 69 => ⟨S4x40960, .i1⟩
  | 70 => ⟨S_, .i32⟩
  | 71 => ⟨S4x40960, .i32⟩
  | 72 => ⟨S4x40960, .i32⟩
  | 73 => ⟨S4x40960, .i32⟩
  | 74 => ⟨S4x40960, .i32⟩
  | 75 => ⟨S4x40960x1, .i32⟩
  | 76 => ⟨S4x40960x1, .i32⟩
  | 77 => ⟨S4x40960x2, .i32⟩
  | 78 => ⟨S_, .i32⟩
  | 79 => ⟨S4x40960, .i32⟩
  | 80 => ⟨S4x1153, .i32⟩
  | 81 => ⟨S4x1152, .i32⟩
  | 82 => ⟨S_, .i32⟩
  | 83 => ⟨S4x64x64x10, .i32⟩
  | 84 => ⟨S4x64x64x10, .i1⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S4x64x64x10, .i32⟩
  | 92 => ⟨S4x64x64x10, .i32⟩
  | 93 => ⟨S_, .i32⟩
  | 94 => ⟨S4x64x64x10, .i32⟩
  | 95 => ⟨S4x64x64x10, .i1⟩
  | 96 => ⟨S_, .i32⟩
  | 97 => ⟨S4x64x64x10, .i32⟩
  | 98 => ⟨S4x64x64x10, .i1⟩
  | 99 => ⟨S_, .i32⟩
  | 100 => ⟨S_, .i1⟩
  | 101 => ⟨S4x64x64x10, .i1⟩
  | 102 => ⟨S4x64x64x10, .i1⟩
  | 103 => ⟨S4x64x64x10, .i1⟩
  | 104 => ⟨S4x64x64x10, .i32⟩
  | 105 => ⟨S4x64x64x10, .i32⟩
  | 106 => ⟨S4x64x64x10, .i32⟩
  | 107 => ⟨S_, .i32⟩
  | 108 => ⟨S_, .i32⟩
  | 109 => ⟨S4x64x64x10, .i32⟩
  | 110 => ⟨S4x64x64x10, .i32⟩
  | 111 => ⟨S_, .i32⟩
  | 112 => ⟨S4x64x64x10, .i32⟩
  | 113 => ⟨S4x64x64x10, .i1⟩
  | 114 => ⟨S4x64x64x10, .f32⟩
  | 115 => ⟨S4x64x64x10, .f32⟩
  | 116 => ⟨S_, .i32⟩
  | 117 => ⟨S4x64x64x10, .i32⟩
  | 118 => ⟨S4x64x64x10, .i1⟩
  | 119 => ⟨S_, .i32⟩
  | 120 => ⟨S4x64x64x10, .i32⟩
  | 121 => ⟨S4x64x64x10, .i32⟩
  | 122 => ⟨S4x64x64x10, .i32⟩
  | 123 => ⟨S4x64x64x10x1, .i32⟩
  | 124 => ⟨S4x64x64x10x12, .f32⟩
  | 125 => ⟨S4x64x64x10x1, .f32⟩
  | 126 => ⟨S4x64x64x10x12, .f32⟩
  | 127 => ⟨S4x64x64x10x12, .f32⟩
  | _ => ⟨S4x1152x3, .f32⟩

abbrev hbmTy0_2 (i : Nat) : BufTy := match i % 128 with
  | 0 => ⟨S_, .f32⟩
  | 1 => ⟨S4x64x64x12, .f32⟩
  | 2 => ⟨S4x12x64x64, .f32⟩
  | 3 => ⟨S224, .f32⟩
  | 4 => ⟨S_, .f32⟩
  | 5 => ⟨S224, .f32⟩
  | 6 => ⟨S224, .f32⟩
  | 7 => ⟨S_, .f32⟩
  | 8 => ⟨S224, .f32⟩
  | 9 => ⟨S224, .f32⟩
  | 10 => ⟨S_, .f32⟩
  | 11 => ⟨S224, .f32⟩
  | 12 => ⟨S224, .f32⟩
  | 13 => ⟨S224, .f32⟩
  | 14 => ⟨S224, .i32⟩
  | 15 => ⟨S_, .i32⟩
  | 16 => ⟨S224, .i32⟩
  | 17 => ⟨S224, .i1⟩
  | 18 => ⟨S_, .i32⟩
  | 19 => ⟨S224, .i32⟩
  | 20 => ⟨S224, .i32⟩
  | 21 => ⟨S224, .i32⟩
  | 22 => ⟨S224x1, .i32⟩
  | 23 => ⟨S4x12x224x64, .f32⟩
  | 24 => ⟨S224, .f32⟩
  | 25 => ⟨S_, .f32⟩
  | 26 => ⟨S224, .f32⟩
  | 27 => ⟨S224, .f32⟩
  | 28 => ⟨S_, .f32⟩
  | 29 => ⟨S224, .f32⟩
  | 30 => ⟨S224, .f32⟩
  | 31 => ⟨S_, .f32⟩
  | 32 => ⟨S224, .f32⟩
  | 33 => ⟨S224, .f32⟩
  | 34 => ⟨S224, .f32⟩
  | 35 => ⟨S224, .i32⟩
  | 36 => ⟨S_, .i32⟩
  | 37 => ⟨S224, .i32⟩
  | 38 => ⟨S224, .i1⟩
  | 39 => ⟨S_, .i32⟩
  | 40 => ⟨S224, .i32⟩
  | 41 => ⟨S224, .i32⟩
  | 42 => ⟨S224, .i32⟩
  | 43 => ⟨S224x1, .i32⟩
  | 44 => ⟨S4x12x224x224, .f32⟩
  | 45 => ⟨S_, .i32⟩
  | 46 => ⟨S4x64x64x10, .i32⟩
  | 47 => ⟨S4x64x64x10, .i1⟩
  | 48 => ⟨S_, .i32⟩
  | 49 => ⟨S4x64x64x10, .i32⟩
  | 50 => ⟨S4x64x64x10, .i32⟩
  | 51 => ⟨S4x64x64x10, .i32⟩
  | 52 => ⟨S4x64x64x10x1, .i32⟩
  | 53 => ⟨S4x64x64x10x12, .f32⟩
  | 54 => ⟨S4x64x64x10x1, .f32⟩
  | 55 => ⟨S4x64x64x10x12, .f32⟩
  | 56 => ⟨S4x64x64x10x12, .f32⟩
  | 57 => ⟨S_, .f32⟩
  | 58 => ⟨S4x64x64x12, .f32⟩
  | 59 => ⟨S4x12x64x64, .f32⟩
  | 60 => ⟨S224, .f32⟩
  | 61 => ⟨S_, .f32⟩
  | 62 => ⟨S224, .f32⟩
  | 63 => ⟨S224, .f32⟩
  | 64 => ⟨S_, .f32⟩
  | 65 => ⟨S224, .f32⟩
  | 66 => ⟨S224, .f32⟩
  | 67 => ⟨S_, .f32⟩
  | 68 => ⟨S224, .f32⟩
  | 69 => ⟨S224, .f32⟩
  | 70 => ⟨S224, .f32⟩
  | 71 => ⟨S224, .i32⟩
  | 72 => ⟨S_, .i32⟩
  | 73 => ⟨S224, .i32⟩
  | 74 => ⟨S224, .i1⟩
  | 75 => ⟨S_, .i32⟩
  | 76 => ⟨S224, .i32⟩
  | 77 => ⟨S224, .i32⟩
  | 78 => ⟨S224, .i32⟩
  | 79 => ⟨S224x1, .i32⟩
  | 80 => ⟨S4x12x224x64, .f32⟩
  | 81 => ⟨S224, .f32⟩
  | 82 => ⟨S_, .f32⟩
  | 83 => ⟨S224, .f32⟩
  | 84 => ⟨S224, .f32⟩
  | 85 => ⟨S_, .f32⟩
  | 86 => ⟨S224, .f32⟩
  | 87 => ⟨S224, .f32⟩
  | 88 => ⟨S_, .f32⟩
  | 89 => ⟨S224, .f32⟩
  | 90 => ⟨S224, .f32⟩
  | 91 => ⟨S224, .f32⟩
  | 92 => ⟨S224, .i32⟩
  | 93 => ⟨S_, .i32⟩
  | 94 => ⟨S224, .i32⟩
  | 95 => ⟨S224, .i1⟩
  | 96 => ⟨S_, .i32⟩
  | 97 => ⟨S224, .i32⟩
  | 98 => ⟨S224, .i32⟩
  | 99 => ⟨S224, .i32⟩
  | 100 => ⟨S224x1, .i32⟩
  | 101 => ⟨S4x12x224x224, .f32⟩
  | 102 => ⟨S_, .f32⟩
  | 103 => ⟨S4x224x224, .f32⟩
  | 104 => ⟨S_, .f32⟩
  | 105 => ⟨S4x224x224, .f32⟩
  | 106 => ⟨S4x224x224, .f32⟩
  | 107 => ⟨S4x1x224x224, .f32⟩
  | 108 => ⟨S4x12x224x224, .f32⟩
  | 109 => ⟨S4x12x224x224, .f32⟩
  | 110 => ⟨S4x12x224x224, .f32⟩
  | 111 => ⟨S_, .f32⟩
  | 112 => ⟨S4x224x224, .f32⟩
  | 113 => ⟨S4x1x224x224, .f32⟩
  | 114 => ⟨S4x12x224x224, .f32⟩
  | 115 => ⟨S4x12x224x224, .f32⟩
  | 116 => ⟨S_, .i32⟩
  | 117 => ⟨S4x64x64x10, .i32⟩
  | 118 => ⟨S4x64x64x10, .i1⟩
  | 119 => ⟨S_, .i32⟩
  | 120 => ⟨S4x64x64x10, .i32⟩
  | 121 => ⟨S4x64x64x10, .i32⟩
  | 122 => ⟨S4x64x64x10, .i32⟩
  | 123 => ⟨S4x64x64x10x1, .i32⟩
  | 124 => ⟨S4x64x64x10x64, .f32⟩
  | 125 => ⟨S4x64x64x10x1, .f32⟩
  | 126 => ⟨S4x64x64x10x64, .f32⟩
  | 127 => ⟨S4x64x64x10x64, .f32⟩
  | _ => ⟨S4x1152x3, .f32⟩

abbrev hbmTy0_3 (i : Nat) : BufTy := match i % 128 with
  | 0 => ⟨S_, .f32⟩
  | 1 => ⟨S4x64x64x64, .f32⟩
  | 2 => ⟨S4x64x64x64, .f32⟩
  | 3 => ⟨S224, .f32⟩
  | 4 => ⟨S_, .f32⟩
  | 5 => ⟨S224, .f32⟩
  | 6 => ⟨S224, .f32⟩
  | 7 => ⟨S_, .f32⟩
  | 8 => ⟨S224, .f32⟩
  | 9 => ⟨S224, .f32⟩
  | 10 => ⟨S_, .f32⟩
  | 11 => ⟨S224, .f32⟩
  | 12 => ⟨S224, .f32⟩
  | 13 => ⟨S224, .f32⟩
  | 14 => ⟨S224, .i32⟩
  | 15 => ⟨S_, .i32⟩
  | 16 => ⟨S224, .i32⟩
  | 17 => ⟨S224, .i1⟩
  | 18 => ⟨S_, .i32⟩
  | 19 => ⟨S224, .i32⟩
  | 20 => ⟨S224, .i32⟩
  | 21 => ⟨S224, .i32⟩
  | 22 => ⟨S224x1, .i32⟩
  | 23 => ⟨S4x64x224x64, .f32⟩
  | 24 => ⟨S224, .f32⟩
  | 25 => ⟨S_, .f32⟩
  | 26 => ⟨S224, .f32⟩
  | 27 => ⟨S224, .f32⟩
  | 28 => ⟨S_, .f32⟩
  | 29 => ⟨S224, .f32⟩
  | 30 => ⟨S224, .f32⟩
  | 31 => ⟨S_, .f32⟩
  | 32 => ⟨S224, .f32⟩
  | 33 => ⟨S224, .f32⟩
  | 34 => ⟨S224, .f32⟩
  | 35 => ⟨S224, .i32⟩
  | 36 => ⟨S_, .i32⟩
  | 37 => ⟨S224, .i32⟩
  | 38 => ⟨S224, .i1⟩
  | 39 => ⟨S_, .i32⟩
  | 40 => ⟨S224, .i32⟩
  | 41 => ⟨S224, .i32⟩
  | 42 => ⟨S224, .i32⟩
  | 43 => ⟨S224x1, .i32⟩
  | 44 => ⟨S4x64x224x224, .f32⟩
  | 45 => ⟨S4x64x224x224, .f32⟩
  | 46 => ⟨S_, .f32⟩
  | 47 => ⟨S4x224x224, .f32⟩
  | 48 => ⟨S4x1x224x224, .f32⟩
  | 49 => ⟨S_, .f32⟩
  | 50 => ⟨S4x1x224x224, .f32⟩
  | 51 => ⟨S4x1x224x224, .f32⟩
  | 52 => ⟨S4x1x224x224, .f32⟩
  | 53 => ⟨S4x64x224x224, .f32⟩
  | 54 => ⟨S4x64x224x224, .f32⟩
  | _ => ⟨S4x1152x3, .f32⟩

abbrev hbmTy (i : Nat) : BufTy := match i / 128 with
  | 0 => hbmTy0_0 i
  | 1 => hbmTy0_1 i
  | 2 => hbmTy0_2 i
  | 3 => hbmTy0_3 i
  | _ => ⟨S4x1152x3, .f32⟩

abbrev bufTy : (tb : Table) → Fin (tcTables nBuf tb) → BufTy
  | .hbm, ⟨i, _⟩ => hbmTy i
  | _, _ => ⟨S4x1152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_cst : Ref sig .tc := ⟨.hbm, 24, rfl⟩
abbrev main_call0_v3 : Ref sig .tc := ⟨.hbm, 25, rfl⟩
abbrev main_call0_v4 : Ref sig .tc := ⟨.hbm, 26, rfl⟩
abbrev main_call0_cst_0 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_v12 : Ref sig .tc := ⟨.hbm, 41, rfl⟩
abbrev main_cst_3 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_cst : Ref sig .tc := ⟨.hbm, 47, rfl⟩
abbrev main_call1_v3 : Ref sig .tc := ⟨.hbm, 48, rfl⟩
abbrev main_call1_v4 : Ref sig .tc := ⟨.hbm, 49, rfl⟩
abbrev main_call1_cst_0 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_cst_1 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_v15 : Ref sig .tc := ⟨.hbm, 62, rfl⟩
abbrev main_call1_v16 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_5 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_values : Ref sig .tc := ⟨.hbm, 84, rfl⟩
abbrev main_indices : Ref sig .tc := ⟨.hbm, 85, rfl⟩
abbrev main_v32 : Ref sig .tc := ⟨.hbm, 86, rfl⟩
abbrev main_c : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_cst_6 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_c_7 : Ref sig .tc := ⟨.hbm, 96, rfl⟩
abbrev main_call2_v0 : Ref sig .tc := ⟨.hbm, 97, rfl⟩
abbrev main_call2_v1 : Ref sig .tc := ⟨.hbm, 98, rfl⟩
abbrev main_v40 : Ref sig .tc := ⟨.hbm, 99, rfl⟩
abbrev main_cst_8 : Ref sig .tc := ⟨.hbm, 100, rfl⟩
abbrev main_v41 : Ref sig .tc := ⟨.hbm, 101, rfl⟩
abbrev main_v42 : Ref sig .tc := ⟨.hbm, 102, rfl⟩
abbrev main_cst_9 : Ref sig .tc := ⟨.hbm, 103, rfl⟩
abbrev main_call3_v0 : Ref sig .tc := ⟨.hbm, 104, rfl⟩
abbrev main_call3_v1 : Ref sig .tc := ⟨.hbm, 105, rfl⟩
abbrev main_v43 : Ref sig .tc := ⟨.hbm, 106, rfl⟩
abbrev main_c_10 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_call4_v0 : Ref sig .tc := ⟨.hbm, 113, rfl⟩
abbrev main_call4_cst : Ref sig .tc := ⟨.hbm, 114, rfl⟩
abbrev main_call4_v1 : Ref sig .tc := ⟨.hbm, 115, rfl⟩
abbrev main_call4_v2 : Ref sig .tc := ⟨.hbm, 116, rfl⟩
abbrev main_call4_cst_0 : Ref sig .tc := ⟨.hbm, 117, rfl⟩
abbrev main_call4_v3 : Ref sig .tc := ⟨.hbm, 118, rfl⟩
abbrev main_call4_v4 : Ref sig .tc := ⟨.hbm, 119, rfl⟩
abbrev main_call4_cst_1 : Ref sig .tc := ⟨.hbm, 120, rfl⟩
abbrev main_call4_v5 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_c : Ref sig .tc := ⟨.hbm, 125, rfl⟩
abbrev main_call4_v9 : Ref sig .tc := ⟨.hbm, 126, rfl⟩
abbrev main_call4_v10 : Ref sig .tc := ⟨.hbm, 127, rfl⟩
abbrev main_call4_c_2 : Ref sig .tc := ⟨.hbm, 128, rfl⟩
abbrev main_call4_v11 : Ref sig .tc := ⟨.hbm, 129, rfl⟩
abbrev main_call4_v12 : Ref sig .tc := ⟨.hbm, 130, rfl⟩
abbrev main_call4_v13 : Ref sig .tc := ⟨.hbm, 131, rfl⟩
abbrev main_call4_v14 : Ref sig .tc := ⟨.hbm, 132, rfl⟩
abbrev main_call4_v15 : Ref sig .tc := ⟨.hbm, 133, rfl⟩
abbrev main_call4_v16 : Ref sig .tc := ⟨.hbm, 134, rfl⟩
abbrev main_call4_cst_3 : Ref sig .tc := ⟨.hbm, 135, rfl⟩
abbrev main_call4_v17 : Ref sig .tc := ⟨.hbm, 136, rfl⟩
abbrev main_call4_v18 : Ref sig .tc := ⟨.hbm, 137, rfl⟩
abbrev main_call4_cst_4 : Ref sig .tc := ⟨.hbm, 138, rfl⟩
abbrev main_call4_v19 : Ref sig .tc := ⟨.hbm, 139, rfl⟩
abbrev main_call4_v20 : Ref sig .tc := ⟨.hbm, 140, rfl⟩
abbrev main_call4_cst_5 : Ref sig .tc := ⟨.hbm, 141, rfl⟩
abbrev main_call4_v21 : Ref sig .tc := ⟨.hbm, 142, rfl⟩
abbrev main_call4_v22 : Ref sig .tc := ⟨.hbm, 143, rfl⟩
abbrev main_call4_v23 : Ref sig .tc := ⟨.hbm, 144, rfl⟩
abbrev main_call4_v24 : Ref sig .tc := ⟨.hbm, 145, rfl⟩
abbrev main_call4_c_6 : Ref sig .tc := ⟨.hbm, 146, rfl⟩
abbrev main_call4_v25 : Ref sig .tc := ⟨.hbm, 147, rfl⟩
abbrev main_call4_v26 : Ref sig .tc := ⟨.hbm, 148, rfl⟩
abbrev main_call4_c_7 : Ref sig .tc := ⟨.hbm, 149, rfl⟩
abbrev main_call4_v27 : Ref sig .tc := ⟨.hbm, 150, rfl⟩
abbrev main_call4_v28 : Ref sig .tc := ⟨.hbm, 151, rfl⟩
abbrev main_call4_v29 : Ref sig .tc := ⟨.hbm, 152, rfl⟩
abbrev main_call4_v30 : Ref sig .tc := ⟨.hbm, 153, rfl⟩
abbrev main_v49 : Ref sig .tc := ⟨.hbm, 154, rfl⟩
abbrev main_cst_11 : Ref sig .tc := ⟨.hbm, 155, rfl⟩
abbrev main_v50 : Ref sig .tc := ⟨.hbm, 156, rfl⟩
abbrev main_cst_12 : Ref sig .tc := ⟨.hbm, 157, rfl⟩
abbrev main_cst_13 : Ref sig .tc := ⟨.hbm, 158, rfl⟩
abbrev main_call5_v0 : Ref sig .tc := ⟨.hbm, 159, rfl⟩
abbrev main_call5_v1 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_v51 : Ref sig .tc := ⟨.hbm, 164, rfl⟩
abbrev main_v52 : Ref sig .tc := ⟨.hbm, 165, rfl⟩
abbrev main_v53 : Ref sig .tc := ⟨.hbm, 166, rfl⟩
abbrev main_c_14 : Ref sig .tc := ⟨.hbm, 167, rfl⟩
abbrev main_v54 : Ref sig .tc := ⟨.hbm, 168, rfl⟩
abbrev main_v55 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_c_15 : Ref sig .tc := ⟨.hbm, 173, rfl⟩
abbrev main_c_16 : Ref sig .tc := ⟨.hbm, 174, rfl⟩
abbrev main_call6_v0 : Ref sig .tc := ⟨.hbm, 175, rfl⟩
abbrev main_call6_v1 : Ref sig .tc := ⟨.hbm, 176, rfl⟩
abbrev main_call6_v2 : Ref sig .tc := ⟨.hbm, 177, rfl⟩
abbrev main_call6_v3 : Ref sig .tc := ⟨.hbm, 178, rfl⟩
abbrev main_call6_v4 : Ref sig .tc := ⟨.hbm, 179, rfl⟩
abbrev main_v59 : Ref sig .tc := ⟨.hbm, 180, rfl⟩
abbrev main_c_17 : Ref sig .tc := ⟨.hbm, 181, rfl⟩
abbrev main_v60 : Ref sig .tc := ⟨.hbm, 182, rfl⟩
abbrev main_v61 : Ref sig .tc := ⟨.hbm, 183, rfl⟩
abbrev main_c_18 : Ref sig .tc := ⟨.hbm, 184, rfl⟩
abbrev main_v62 : Ref sig .tc := ⟨.hbm, 185, rfl⟩
abbrev main_v63 : Ref sig .tc := ⟨.hbm, 186, rfl⟩
abbrev main_v64 : Ref sig .tc := ⟨.hbm, 187, rfl⟩
abbrev main_c_19 : Ref sig .tc := ⟨.hbm, 188, rfl⟩
abbrev main_v65 : Ref sig .tc := ⟨.hbm, 189, rfl⟩
abbrev main_v66 : Ref sig .tc := ⟨.hbm, 190, rfl⟩
abbrev main_c_20 : Ref sig .tc := ⟨.hbm, 191, rfl⟩
abbrev main_v67 : Ref sig .tc := ⟨.hbm, 192, rfl⟩
abbrev main_v68 : Ref sig .tc := ⟨.hbm, 193, rfl⟩
abbrev main_v69 : Ref sig .tc := ⟨.hbm, 194, rfl⟩
abbrev main_c_21 : Ref sig .tc := ⟨.hbm, 195, rfl⟩
abbrev main_v70 : Ref sig .tc := ⟨.hbm, 196, rfl⟩
abbrev main_v71 : Ref sig .tc := ⟨.hbm, 197, rfl⟩
abbrev main_c_22 : Ref sig .tc := ⟨.hbm, 198, rfl⟩
abbrev main_v72 : Ref sig .tc := ⟨.hbm, 199, rfl⟩
abbrev main_v73 : Ref sig .tc := ⟨.hbm, 200, rfl⟩
abbrev main_v74 : Ref sig .tc := ⟨.hbm, 201, rfl⟩
abbrev main_v75 : Ref sig .tc := ⟨.hbm, 202, rfl⟩
abbrev main_v76 : Ref sig .tc := ⟨.hbm, 203, rfl⟩
abbrev main_v77 : Ref sig .tc := ⟨.hbm, 204, rfl⟩
abbrev main_v78 : Ref sig .tc := ⟨.hbm, 205, rfl⟩
abbrev main_c_23 : Ref sig .tc := ⟨.hbm, 206, rfl⟩
abbrev main_v79 : Ref sig .tc := ⟨.hbm, 207, rfl⟩
abbrev main_v80 : Ref sig .tc := ⟨.hbm, 208, rfl⟩
abbrev main_v81 : Ref sig .tc := ⟨.hbm, 209, rfl⟩
abbrev main_c_24 : Ref sig .tc := ⟨.hbm, 210, rfl⟩
abbrev main_v82 : Ref sig .tc := ⟨.hbm, 211, rfl⟩
abbrev main_v83 : Ref sig .tc := ⟨.hbm, 212, rfl⟩
abbrev main_c_25 : Ref sig .tc := ⟨.hbm, 213, rfl⟩
abbrev main_call7_v0 : Ref sig .tc := ⟨.hbm, 214, rfl⟩
abbrev main_call7_c : Ref sig .tc := ⟨.hbm, 215, rfl⟩
abbrev main_call7_v1 : Ref sig .tc := ⟨.hbm, 216, rfl⟩
abbrev main_call7_c_0 : Ref sig .tc := ⟨.hbm, 217, rfl⟩
abbrev main_call7_v2 : Ref sig .tc := ⟨.hbm, 218, rfl⟩
abbrev main_call7_v3 : Ref sig .tc := ⟨.hbm, 219, rfl⟩
abbrev main_call7_v4 : Ref sig .tc := ⟨.hbm, 220, rfl⟩
abbrev main_call7_c_1 : Ref sig .tc := ⟨.hbm, 221, rfl⟩
abbrev main_call7_v5 : Ref sig .tc := ⟨.hbm, 222, rfl⟩
abbrev main_call7_v6 : Ref sig .tc := ⟨.hbm, 223, rfl⟩
abbrev main_call7_c_2 : Ref sig .tc := ⟨.hbm, 224, rfl⟩
abbrev main_call7_v7 : Ref sig .tc := ⟨.hbm, 225, rfl⟩
abbrev main_call7_v8 : Ref sig .tc := ⟨.hbm, 226, rfl⟩
abbrev main_call7_c_3 : Ref sig .tc := ⟨.hbm, 227, rfl⟩
abbrev main_call7_v9 : Ref sig .tc := ⟨.hbm, 228, rfl⟩
abbrev main_call7_v10 : Ref sig .tc := ⟨.hbm, 229, rfl⟩
abbrev main_call7_v11 : Ref sig .tc := ⟨.hbm, 230, rfl⟩
abbrev main_call7_v12 : Ref sig .tc := ⟨.hbm, 231, rfl⟩
abbrev main_call7_v13 : Ref sig .tc := ⟨.hbm, 232, rfl⟩
abbrev main_call7_v14 : Ref sig .tc := ⟨.hbm, 233, rfl⟩
abbrev main_v84 : Ref sig .tc := ⟨.hbm, 234, rfl⟩
abbrev main_c_26 : Ref sig .tc := ⟨.hbm, 235, rfl⟩
abbrev main_call8_v0 : Ref sig .tc := ⟨.hbm, 236, rfl⟩
abbrev main_call8_v1 : Ref sig .tc := ⟨.hbm, 237, rfl⟩
abbrev main_v85 : Ref sig .tc := ⟨.hbm, 238, rfl⟩
abbrev main_c_27 : Ref sig .tc := ⟨.hbm, 239, rfl⟩
abbrev main_v86 : Ref sig .tc := ⟨.hbm, 240, rfl⟩
abbrev main_v87 : Ref sig .tc := ⟨.hbm, 241, rfl⟩
abbrev main_v88 : Ref sig .tc := ⟨.hbm, 242, rfl⟩
abbrev main_v89 : Ref sig .tc := ⟨.hbm, 243, rfl⟩
abbrev main_c_28 : Ref sig .tc := ⟨.hbm, 244, rfl⟩
abbrev main_v90 : Ref sig .tc := ⟨.hbm, 245, rfl⟩
abbrev main_v91 : Ref sig .tc := ⟨.hbm, 246, rfl⟩
abbrev main_c_29 : Ref sig .tc := ⟨.hbm, 247, rfl⟩
abbrev main_v92 : Ref sig .tc := ⟨.hbm, 248, rfl⟩
abbrev main_v93 : Ref sig .tc := ⟨.hbm, 249, rfl⟩
abbrev main_v94 : Ref sig .tc := ⟨.hbm, 250, rfl⟩
abbrev main_v95 : Ref sig .tc := ⟨.hbm, 251, rfl⟩
abbrev main_v96 : Ref sig .tc := ⟨.hbm, 252, rfl⟩
abbrev main_v97 : Ref sig .tc := ⟨.hbm, 253, rfl⟩
abbrev main_v98 : Ref sig .tc := ⟨.hbm, 254, rfl⟩
abbrev main_v99 : Ref sig .tc := ⟨.hbm, 255, rfl⟩
abbrev main_cst_30 : Ref sig .tc := ⟨.hbm, 256, rfl⟩
abbrev main_v100 : Ref sig .tc := ⟨.hbm, 257, rfl⟩
abbrev main_v101 : Ref sig .tc := ⟨.hbm, 258, rfl⟩
abbrev main_call9_v0 : Ref sig .tc := ⟨.hbm, 259, rfl⟩
abbrev main_call9_cst : Ref sig .tc := ⟨.hbm, 260, rfl⟩
abbrev main_call9_v1 : Ref sig .tc := ⟨.hbm, 261, rfl⟩
abbrev main_call9_v2 : Ref sig .tc := ⟨.hbm, 262, rfl⟩
abbrev main_call9_cst_0 : Ref sig .tc := ⟨.hbm, 263, rfl⟩
abbrev main_call9_v3 : Ref sig .tc := ⟨.hbm, 264, rfl⟩
abbrev main_call9_v4 : Ref sig .tc := ⟨.hbm, 265, rfl⟩
abbrev main_call9_cst_1 : Ref sig .tc := ⟨.hbm, 266, rfl⟩
abbrev main_call9_v5 : Ref sig .tc := ⟨.hbm, 267, rfl⟩
abbrev main_call9_v6 : Ref sig .tc := ⟨.hbm, 268, rfl⟩
abbrev main_call9_v7 : Ref sig .tc := ⟨.hbm, 269, rfl⟩
abbrev main_call9_v8 : Ref sig .tc := ⟨.hbm, 270, rfl⟩
abbrev main_call9_c : Ref sig .tc := ⟨.hbm, 271, rfl⟩
abbrev main_call9_v9 : Ref sig .tc := ⟨.hbm, 272, rfl⟩
abbrev main_call9_v10 : Ref sig .tc := ⟨.hbm, 273, rfl⟩
abbrev main_call9_c_2 : Ref sig .tc := ⟨.hbm, 274, rfl⟩
abbrev main_call9_v11 : Ref sig .tc := ⟨.hbm, 275, rfl⟩
abbrev main_call9_v12 : Ref sig .tc := ⟨.hbm, 276, rfl⟩
abbrev main_call9_v13 : Ref sig .tc := ⟨.hbm, 277, rfl⟩
abbrev main_call9_v14 : Ref sig .tc := ⟨.hbm, 278, rfl⟩
abbrev main_call9_v15 : Ref sig .tc := ⟨.hbm, 279, rfl⟩
abbrev main_call9_v16 : Ref sig .tc := ⟨.hbm, 280, rfl⟩
abbrev main_call9_cst_3 : Ref sig .tc := ⟨.hbm, 281, rfl⟩
abbrev main_call9_v17 : Ref sig .tc := ⟨.hbm, 282, rfl⟩
abbrev main_call9_v18 : Ref sig .tc := ⟨.hbm, 283, rfl⟩
abbrev main_call9_cst_4 : Ref sig .tc := ⟨.hbm, 284, rfl⟩
abbrev main_call9_v19 : Ref sig .tc := ⟨.hbm, 285, rfl⟩
abbrev main_call9_v20 : Ref sig .tc := ⟨.hbm, 286, rfl⟩
abbrev main_call9_cst_5 : Ref sig .tc := ⟨.hbm, 287, rfl⟩
abbrev main_call9_v21 : Ref sig .tc := ⟨.hbm, 288, rfl⟩
abbrev main_call9_v22 : Ref sig .tc := ⟨.hbm, 289, rfl⟩
abbrev main_call9_v23 : Ref sig .tc := ⟨.hbm, 290, rfl⟩
abbrev main_call9_v24 : Ref sig .tc := ⟨.hbm, 291, rfl⟩
abbrev main_call9_c_6 : Ref sig .tc := ⟨.hbm, 292, rfl⟩
abbrev main_call9_v25 : Ref sig .tc := ⟨.hbm, 293, rfl⟩
abbrev main_call9_v26 : Ref sig .tc := ⟨.hbm, 294, rfl⟩
abbrev main_call9_c_7 : Ref sig .tc := ⟨.hbm, 295, rfl⟩
abbrev main_call9_v27 : Ref sig .tc := ⟨.hbm, 296, rfl⟩
abbrev main_call9_v28 : Ref sig .tc := ⟨.hbm, 297, rfl⟩
abbrev main_call9_v29 : Ref sig .tc := ⟨.hbm, 298, rfl⟩
abbrev main_call9_v30 : Ref sig .tc := ⟨.hbm, 299, rfl⟩
abbrev main_v102 : Ref sig .tc := ⟨.hbm, 300, rfl⟩
abbrev main_c_31 : Ref sig .tc := ⟨.hbm, 301, rfl⟩
abbrev main_v103 : Ref sig .tc := ⟨.hbm, 302, rfl⟩
abbrev main_v104 : Ref sig .tc := ⟨.hbm, 303, rfl⟩
abbrev main_c_32 : Ref sig .tc := ⟨.hbm, 304, rfl⟩
abbrev main_v105 : Ref sig .tc := ⟨.hbm, 305, rfl⟩
abbrev main_v106 : Ref sig .tc := ⟨.hbm, 306, rfl⟩
abbrev main_v107 : Ref sig .tc := ⟨.hbm, 307, rfl⟩
abbrev main_v108 : Ref sig .tc := ⟨.hbm, 308, rfl⟩
abbrev main_v109 : Ref sig .tc := ⟨.hbm, 309, rfl⟩
abbrev main_v110 : Ref sig .tc := ⟨.hbm, 310, rfl⟩
abbrev main_v111 : Ref sig .tc := ⟨.hbm, 311, rfl⟩
abbrev main_v112 : Ref sig .tc := ⟨.hbm, 312, rfl⟩
abbrev main_cst_33 : Ref sig .tc := ⟨.hbm, 313, rfl⟩
abbrev main_v113 : Ref sig .tc := ⟨.hbm, 314, rfl⟩
abbrev main_v114 : Ref sig .tc := ⟨.hbm, 315, rfl⟩
abbrev main_call10_v0 : Ref sig .tc := ⟨.hbm, 316, rfl⟩
abbrev main_call10_cst : Ref sig .tc := ⟨.hbm, 317, rfl⟩
abbrev main_call10_v1 : Ref sig .tc := ⟨.hbm, 318, rfl⟩
abbrev main_call10_v2 : Ref sig .tc := ⟨.hbm, 319, rfl⟩
abbrev main_call10_cst_0 : Ref sig .tc := ⟨.hbm, 320, rfl⟩
abbrev main_call10_v3 : Ref sig .tc := ⟨.hbm, 321, rfl⟩
abbrev main_call10_v4 : Ref sig .tc := ⟨.hbm, 322, rfl⟩
abbrev main_call10_cst_1 : Ref sig .tc := ⟨.hbm, 323, rfl⟩
abbrev main_call10_v5 : Ref sig .tc := ⟨.hbm, 324, rfl⟩
abbrev main_call10_v6 : Ref sig .tc := ⟨.hbm, 325, rfl⟩
abbrev main_call10_v7 : Ref sig .tc := ⟨.hbm, 326, rfl⟩
abbrev main_call10_v8 : Ref sig .tc := ⟨.hbm, 327, rfl⟩
abbrev main_call10_c : Ref sig .tc := ⟨.hbm, 328, rfl⟩
abbrev main_call10_v9 : Ref sig .tc := ⟨.hbm, 329, rfl⟩
abbrev main_call10_v10 : Ref sig .tc := ⟨.hbm, 330, rfl⟩
abbrev main_call10_c_2 : Ref sig .tc := ⟨.hbm, 331, rfl⟩
abbrev main_call10_v11 : Ref sig .tc := ⟨.hbm, 332, rfl⟩
abbrev main_call10_v12 : Ref sig .tc := ⟨.hbm, 333, rfl⟩
abbrev main_call10_v13 : Ref sig .tc := ⟨.hbm, 334, rfl⟩
abbrev main_call10_v14 : Ref sig .tc := ⟨.hbm, 335, rfl⟩
abbrev main_call10_v15 : Ref sig .tc := ⟨.hbm, 336, rfl⟩
abbrev main_call10_v16 : Ref sig .tc := ⟨.hbm, 337, rfl⟩
abbrev main_call10_cst_3 : Ref sig .tc := ⟨.hbm, 338, rfl⟩
abbrev main_call10_v17 : Ref sig .tc := ⟨.hbm, 339, rfl⟩
abbrev main_call10_v18 : Ref sig .tc := ⟨.hbm, 340, rfl⟩
abbrev main_call10_cst_4 : Ref sig .tc := ⟨.hbm, 341, rfl⟩
abbrev main_call10_v19 : Ref sig .tc := ⟨.hbm, 342, rfl⟩
abbrev main_call10_v20 : Ref sig .tc := ⟨.hbm, 343, rfl⟩
abbrev main_call10_cst_5 : Ref sig .tc := ⟨.hbm, 344, rfl⟩
abbrev main_call10_v21 : Ref sig .tc := ⟨.hbm, 345, rfl⟩
abbrev main_call10_v22 : Ref sig .tc := ⟨.hbm, 346, rfl⟩
abbrev main_call10_v23 : Ref sig .tc := ⟨.hbm, 347, rfl⟩
abbrev main_call10_v24 : Ref sig .tc := ⟨.hbm, 348, rfl⟩
abbrev main_call10_c_6 : Ref sig .tc := ⟨.hbm, 349, rfl⟩
abbrev main_call10_v25 : Ref sig .tc := ⟨.hbm, 350, rfl⟩
abbrev main_call10_v26 : Ref sig .tc := ⟨.hbm, 351, rfl⟩
abbrev main_call10_c_7 : Ref sig .tc := ⟨.hbm, 352, rfl⟩
abbrev main_call10_v27 : Ref sig .tc := ⟨.hbm, 353, rfl⟩
abbrev main_call10_v28 : Ref sig .tc := ⟨.hbm, 354, rfl⟩
abbrev main_call10_v29 : Ref sig .tc := ⟨.hbm, 355, rfl⟩
abbrev main_call10_v30 : Ref sig .tc := ⟨.hbm, 356, rfl⟩
abbrev main_v115 : Ref sig .tc := ⟨.hbm, 357, rfl⟩
abbrev main_cst_34 : Ref sig .tc := ⟨.hbm, 358, rfl⟩
abbrev main_v116 : Ref sig .tc := ⟨.hbm, 359, rfl⟩
abbrev main_cst_35 : Ref sig .tc := ⟨.hbm, 360, rfl⟩
abbrev main_v117 : Ref sig .tc := ⟨.hbm, 361, rfl⟩
abbrev main_v118 : Ref sig .tc := ⟨.hbm, 362, rfl⟩
abbrev main_v119 : Ref sig .tc := ⟨.hbm, 363, rfl⟩
abbrev main_v120 : Ref sig .tc := ⟨.hbm, 364, rfl⟩
abbrev main_v121 : Ref sig .tc := ⟨.hbm, 365, rfl⟩
abbrev main_v122 : Ref sig .tc := ⟨.hbm, 366, rfl⟩
abbrev main_cst_36 : Ref sig .tc := ⟨.hbm, 367, rfl⟩
abbrev main_v123 : Ref sig .tc := ⟨.hbm, 368, rfl⟩
abbrev main_v124 : Ref sig .tc := ⟨.hbm, 369, rfl⟩
abbrev main_v125 : Ref sig .tc := ⟨.hbm, 370, rfl⟩
abbrev main_v126 : Ref sig .tc := ⟨.hbm, 371, rfl⟩
abbrev main_c_37 : Ref sig .tc := ⟨.hbm, 372, rfl⟩
abbrev main_v127 : Ref sig .tc := ⟨.hbm, 373, rfl⟩
abbrev main_v128 : Ref sig .tc := ⟨.hbm, 374, rfl⟩
abbrev main_c_38 : Ref sig .tc := ⟨.hbm, 375, rfl⟩
abbrev main_v129 : Ref sig .tc := ⟨.hbm, 376, rfl⟩
abbrev main_v130 : Ref sig .tc := ⟨.hbm, 377, rfl⟩
abbrev main_v131 : Ref sig .tc := ⟨.hbm, 378, rfl⟩
abbrev main_v132 : Ref sig .tc := ⟨.hbm, 379, rfl⟩
abbrev main_v133 : Ref sig .tc := ⟨.hbm, 380, rfl⟩
abbrev main_v134 : Ref sig .tc := ⟨.hbm, 381, rfl⟩
abbrev main_v135 : Ref sig .tc := ⟨.hbm, 382, rfl⟩
abbrev main_v136 : Ref sig .tc := ⟨.hbm, 383, rfl⟩
abbrev main_cst_39 : Ref sig .tc := ⟨.hbm, 384, rfl⟩
abbrev main_v137 : Ref sig .tc := ⟨.hbm, 385, rfl⟩
abbrev main_v138 : Ref sig .tc := ⟨.hbm, 386, rfl⟩
abbrev main_call11_v0 : Ref sig .tc := ⟨.hbm, 387, rfl⟩
abbrev main_call11_cst : Ref sig .tc := ⟨.hbm, 388, rfl⟩
abbrev main_call11_v1 : Ref sig .tc := ⟨.hbm, 389, rfl⟩
abbrev main_call11_v2 : Ref sig .tc := ⟨.hbm, 390, rfl⟩
abbrev main_call11_cst_0 : Ref sig .tc := ⟨.hbm, 391, rfl⟩
abbrev main_call11_v3 : Ref sig .tc := ⟨.hbm, 392, rfl⟩
abbrev main_call11_v4 : Ref sig .tc := ⟨.hbm, 393, rfl⟩
abbrev main_call11_cst_1 : Ref sig .tc := ⟨.hbm, 394, rfl⟩
abbrev main_call11_v5 : Ref sig .tc := ⟨.hbm, 395, rfl⟩
abbrev main_call11_v6 : Ref sig .tc := ⟨.hbm, 396, rfl⟩
abbrev main_call11_v7 : Ref sig .tc := ⟨.hbm, 397, rfl⟩
abbrev main_call11_v8 : Ref sig .tc := ⟨.hbm, 398, rfl⟩
abbrev main_call11_c : Ref sig .tc := ⟨.hbm, 399, rfl⟩
abbrev main_call11_v9 : Ref sig .tc := ⟨.hbm, 400, rfl⟩
abbrev main_call11_v10 : Ref sig .tc := ⟨.hbm, 401, rfl⟩
abbrev main_call11_c_2 : Ref sig .tc := ⟨.hbm, 402, rfl⟩
abbrev main_call11_v11 : Ref sig .tc := ⟨.hbm, 403, rfl⟩
abbrev main_call11_v12 : Ref sig .tc := ⟨.hbm, 404, rfl⟩
abbrev main_call11_v13 : Ref sig .tc := ⟨.hbm, 405, rfl⟩
abbrev main_call11_v14 : Ref sig .tc := ⟨.hbm, 406, rfl⟩
abbrev main_call11_v15 : Ref sig .tc := ⟨.hbm, 407, rfl⟩
abbrev main_call11_v16 : Ref sig .tc := ⟨.hbm, 408, rfl⟩
abbrev main_call11_cst_3 : Ref sig .tc := ⟨.hbm, 409, rfl⟩
abbrev main_call11_v17 : Ref sig .tc := ⟨.hbm, 410, rfl⟩
abbrev main_call11_v18 : Ref sig .tc := ⟨.hbm, 411, rfl⟩
abbrev main_call11_cst_4 : Ref sig .tc := ⟨.hbm, 412, rfl⟩
abbrev main_call11_v19 : Ref sig .tc := ⟨.hbm, 413, rfl⟩
abbrev main_call11_v20 : Ref sig .tc := ⟨.hbm, 414, rfl⟩
abbrev main_call11_cst_5 : Ref sig .tc := ⟨.hbm, 415, rfl⟩
abbrev main_call11_v21 : Ref sig .tc := ⟨.hbm, 416, rfl⟩
abbrev main_call11_v22 : Ref sig .tc := ⟨.hbm, 417, rfl⟩
abbrev main_call11_v23 : Ref sig .tc := ⟨.hbm, 418, rfl⟩
abbrev main_call11_v24 : Ref sig .tc := ⟨.hbm, 419, rfl⟩
abbrev main_call11_c_6 : Ref sig .tc := ⟨.hbm, 420, rfl⟩
abbrev main_call11_v25 : Ref sig .tc := ⟨.hbm, 421, rfl⟩
abbrev main_call11_v26 : Ref sig .tc := ⟨.hbm, 422, rfl⟩
abbrev main_call11_c_7 : Ref sig .tc := ⟨.hbm, 423, rfl⟩
abbrev main_call11_v27 : Ref sig .tc := ⟨.hbm, 424, rfl⟩
abbrev main_call11_v28 : Ref sig .tc := ⟨.hbm, 425, rfl⟩
abbrev main_call11_v29 : Ref sig .tc := ⟨.hbm, 426, rfl⟩
abbrev main_call11_v30 : Ref sig .tc := ⟨.hbm, 427, rfl⟩
abbrev main_v139 : Ref sig .tc := ⟨.hbm, 428, rfl⟩
abbrev main_v140 : Ref sig .tc := ⟨.hbm, 429, rfl⟩
abbrev main_cst_40 : Ref sig .tc := ⟨.hbm, 430, rfl⟩
abbrev main_v141 : Ref sig .tc := ⟨.hbm, 431, rfl⟩
abbrev main_v142 : Ref sig .tc := ⟨.hbm, 432, rfl⟩
abbrev main_cst_41 : Ref sig .tc := ⟨.hbm, 433, rfl⟩
abbrev main_v143 : Ref sig .tc := ⟨.hbm, 434, rfl⟩
abbrev main_v144 : Ref sig .tc := ⟨.hbm, 435, rfl⟩
abbrev main_v145 : Ref sig .tc := ⟨.hbm, 436, rfl⟩
abbrev main_v146 : Ref sig .tc := ⟨.hbm, 437, rfl⟩
abbrev main_v147 : Ref sig .tc := ⟨.hbm, 438, rfl⟩

abbrev nD : Nat := 1
abbrev τ : Topo := Topo.v7x

variable {F : FTy → Type} [FloatOps F]
-- ==== Proof.Frames.lean ====
/- The frames of the three programs and the one entry of `preserves`. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Rasterize

open Idealize.ShloMosaic Idealize.SL.Sem

/-- The kernel over words terminates, keeps its arguments and leaves every semaphore at zero. -/
theorem frame_kernel : Cert.quiescent_Kernel := fun m ρ _ => Cert.Kernel.Gen.frame m ρ

/-- So does the kernel over the extended reals. -/
theorem frame_kernelIdeal : Cert.quiescent_KernelIdeal := fun m ρ _ => Cert.KernelIdeal.Gen.frame m ρ

/-- So does the reference over the extended reals. -/
theorem frame_referenceIdeal : Cert.quiescent_ReferenceIdeal := fun m ρ _ =>
  (θ_run Cert.ReferenceIdeal.defs _ _).mono
    (fun r h => ⟨fun c => (h c).2.2.2.2.2.2,
      Idealize.ShloMosaic.sem_eq_zero_of_no_sems (by decide) r.2⟩)
    (Cert.ReferenceIdeal.Value.run (F := Ideal) m ρ)

/-- The scale that the kernel folds into one float is named the real `√(150 / log 2)`. -/
theorem preserves_scale : Cert.preserves_Kernel_KernelIdeal :=
  IdealRules.named_const.statement Cert.KernelIdeal.κ "s" .f32 0x416B5EF7#32
    ((Real.sqrt (150 * (Real.log 2)⁻¹) : ℝ) : EReal) rfl

end Cert.Rasterize

end
-- ==== Proof.Consts.lean ====
/- The float constants of the programs as the extended reals that they denote. -/
module

public import Idealize.ShloMosaic.Lib.Pointwise

@[expose] public section

noncomputable section

namespace Cert.Rasterize

open Idealize.ShloMosaic

/-- The threshold `1e-4` as the float that both programs hold. -/
def thr : EReal := ((13743895 / 2 ^ 37 : ℝ) : EReal)

/-- The next float after the threshold. -/
def thrUp : EReal := ((13743896 / 2 ^ 37 : ℝ) : EReal)

/-- The threshold's word. -/
theorem ofBits_thr : Ideal.ofBits .f32 0x38D1B717#32 = thr := by
  simp [Ideal.ofBits, Ideal.ieee, -EReal.coe_mul, thr]; norm_num

/-- The word of the next float. -/
theorem ofBits_thrUp : Ideal.ofBits .f32 0x38D1B718#32 = thrUp := by
  simp [Ideal.ofBits, Ideal.ieee, -EReal.coe_mul, thrUp]; norm_num

/-- The word of -150. -/
theorem ofBits_neg150 : Ideal.ofBits .f32 0xC3160000#32 = ((-150 : ℝ) : EReal) := by
  simp [Ideal.ofBits, Ideal.ieee, -EReal.coe_mul]; norm_num

/-- The word of -1. -/
theorem ofBits_neg1 : Ideal.ofBits .f32 0xBF800000#32 = -1 := by
  rw [show (-1 : EReal) = ((-1 : ℝ) : EReal) by simp]
  simp [Ideal.ofBits, Ideal.ieee, -EReal.coe_mul]; norm_num

/-- The word of minus infinity. -/
theorem ofBits_negInf : Ideal.ofBits .f32 0xFF800000#32 = ⊥ := by
  simp [Ideal.ofBits, Ideal.ieee]

/-- The word of 1/2. -/
theorem ofBits_half : Ideal.ofBits .f32 0x3F000000#32 = ((1 / 2 : ℝ) : EReal) := by
  simp [Ideal.ofBits, Ideal.ieee, -EReal.coe_mul]; norm_num

/-- The word of 64. -/
theorem ofBits_64 : Ideal.ofBits .f32 0x42800000#32 = ((64 : ℝ) : EReal) := by
  simp [Ideal.ofBits, Ideal.ieee, -EReal.coe_mul]; norm_num

/-- The word of 224. -/
theorem ofBits_224 : Ideal.ofBits .f32 0x43600000#32 = ((224 : ℝ) : EReal) := by
  simp [Ideal.ofBits, Ideal.ieee, -EReal.coe_mul]; norm_num

/-- The next float is greater than the threshold. -/
theorem thr_lt_thrUp : thr < thrUp := by
  unfold thr thrUp; rw [EReal.coe_lt_coe_iff]; norm_num

/-- The threshold is positive. -/
theorem thr_pos : 0 < thr := by
  unfold thr; rw [← EReal.coe_zero, EReal.coe_lt_coe_iff]; norm_num

end Cert.Rasterize

end
-- ==== Proof.Select.lean ====
/- The mathematics of the selection: ten greatest weights by a sorting order, and by iterated maxima. -/
module

public import Idealize.ShloMosaic.Lib.Pointwise

@[expose] public section

noncomputable section

namespace Cert.Rasterize

/-- The maxima that the kernel takes one after the other: the greatest weight, then the greatest below it, and so on
    (a weight that is not below the last one counts as `-1`). -/
def nextMax {ι : Type} [Fintype ι] (w : ι → EReal) (m : EReal) : EReal :=
  Finset.univ.fold max ⊥ fun p => if w p < m then w p else -1

/-- The `k`-th of the iterated maxima. -/
def iterMax {ι : Type} [Fintype ι] (w : ι → EReal) : ℕ → EReal
  | 0 => Finset.univ.fold max ⊥ w
  | k + 1 => nextMax w (iterMax w k)

/-- A greatest element is at most a bound when every element is. -/
theorem fold_max_le {ι : Type} [Fintype ι] {f : ι → EReal} {c : EReal} :
    Finset.univ.fold max ⊥ f ≤ c ↔ ∀ p, f p ≤ c := by
  rw [Finset.fold_max_le]; simp

/-- Every element is at most the greatest. -/
theorem le_fold_max {ι : Type} [Fintype ι] (f : ι → EReal) (p : ι) : f p ≤ Finset.univ.fold max ⊥ f :=
  fold_max_le.mp le_rfl p

/-- A fold of maxima is a bound that is taken. -/
theorem fold_max_eq {ι : Type} [Fintype ι] {f : ι → EReal} (p : ι) (h : ∀ q, f q ≤ f p) :
    Finset.univ.fold max ⊥ f = f p :=
  le_antisymm (fold_max_le.mpr h) (le_fold_max f p)

section Sorted

variable {P : ℕ} {w : Fin P → EReal} {σ : Fin P → Fin P} {T U : EReal}

/-- What is known of the weights at one pixel: `σ` lists the vertices by falling weight, weights are not negative, of
    the first eleven those that pass the threshold are distinct, and no weight lies between the threshold `T` and its
    successor `U`. -/
structure Sorted (M : ℕ) (w : Fin P → EReal) (σ : Fin P → Fin P) (T U : EReal) : Prop where
  inj : Function.Injective σ
  surj : Function.Surjective σ
  anti : ∀ i j, i ≤ j → w (σ j) ≤ w (σ i)
  nonneg : ∀ p, 0 ≤ w p
  strict : ∀ i : Fin P, i.val < M → ∀ j : Fin P, j.val = i.val + 1 → w (σ j) < w (σ i) ∨ w (σ i) ≤ T
  gap : ∀ p, w p ≤ T ∨ U ≤ w p
  lt : T < U

variable {N : ℕ} (S : Sorted N w σ T U)
include S

/-- The first maximum is the weight that is listed first. -/
theorem Sorted.iter_zero (hP : 0 < P) : iterMax w 0 = w (σ ⟨0, hP⟩) := by
  refine fold_max_eq (f := w) (σ ⟨0, hP⟩) fun q => ?_
  obtain ⟨j, rfl⟩ := S.surj q
  exact S.anti _ _ (Fin.mk_le_of_le_val (Nat.zero_le _))

/-- The iterated maxima of weights are at least minus one. -/
theorem Sorted.iter_ge (hP : 0 < P) (k : ℕ) : (-1 : EReal) ≤ iterMax w k := by
  cases k with
  | zero =>
    rw [S.iter_zero hP]
    exact le_trans (by rw [show (-1 : EReal) = ((-1 : ℝ) : EReal) by simp, ← EReal.coe_zero, EReal.coe_le_coe_iff]; norm_num)
      (S.nonneg _)
  | succ k =>
    show _ ≤ nextMax w (iterMax w k)
    refine le_trans ?_ (le_fold_max (fun p => if w p < iterMax w k then w p else -1) (σ ⟨0, hP⟩))
    split
    · exact le_trans (by rw [show (-1 : EReal) = ((-1 : ℝ) : EReal) by simp, ← EReal.coe_zero, EReal.coe_le_coe_iff]; norm_num)
        (S.nonneg _)
    · exact le_rfl

/-- The maxima fall. -/
theorem Sorted.iter_anti (hP : 0 < P) {k l : ℕ} (h : k ≤ l) : iterMax w l ≤ iterMax w k := by
  refine antitone_nat_of_succ_le (f := iterMax w) (fun n => ?_) h
  show nextMax w (iterMax w n) ≤ _
  refine fold_max_le.mpr fun p => ?_
  split
  · exact le_of_lt ‹_›
  · exact S.iter_ge hP n

/-- As long as the listed weights pass the threshold, the `k`-th maximum is the `k`-th listed weight. -/
theorem Sorted.iter_eq (hP : 0 < P) (k : ℕ) (hk : k < P) (hM : k ≤ N)
    (h : ∀ i : Fin P, i.val < k → T < w (σ i)) : iterMax w k = w (σ ⟨k, hk⟩) := by
  induction k with
  | zero => exact S.iter_zero hP
  | succ k ih =>
    have e := ih (by omega) (by omega) fun i hi => h i (by omega)
    have lt : w (σ ⟨k + 1, hk⟩) < w (σ ⟨k, by omega⟩) := by
      rcases S.strict ⟨k, by omega⟩ (by simpa using hM) ⟨k + 1, hk⟩ rfl with h1 | h1
      · exact h1
      · exact absurd (h ⟨k, by omega⟩ (by simp)) (not_lt.mpr h1)
    show nextMax w (iterMax w k) = _
    rw [e]
    have e2 : (if w (σ ⟨k + 1, hk⟩) < w (σ ⟨k, by omega⟩) then w (σ ⟨k + 1, hk⟩) else -1) = w (σ ⟨k + 1, hk⟩) := if_pos lt
    rw [← e2]
    refine fold_max_eq (f := fun p => if w p < w (σ ⟨k, by omega⟩) then w p else -1) (σ ⟨k + 1, hk⟩) fun q => ?_
    simp only [e2]
    split
    · rename_i hq
      obtain ⟨j, rfl⟩ := S.surj q
      by_cases hj : j.val ≤ k
      · exact absurd hq (not_lt.mpr (S.anti _ _ (by simpa [Fin.le_def] using hj)))
      · exact S.anti _ _ (by simp only [Fin.le_def]; omega)
    · exact le_trans (by rw [show (-1 : EReal) = ((-1 : ℝ) : EReal) by simp, ← EReal.coe_zero, EReal.coe_le_coe_iff]; norm_num)
        (S.nonneg _)

/-- The selection: the weights that reach the last of the maxima and the threshold's successor are those of the first
    `M + 1` listed vertices that pass the threshold. -/
theorem Sorted.selected {M : ℕ} (hP : M + 1 < P) (hN : N = M + 1) (p : Fin P) :
    max (iterMax w M) U ≤ w p ↔ ∃ i : Fin P, i.val < M + 1 ∧ p = σ i ∧ T < w p := by
  have h0 : 0 < P := by omega
  obtain ⟨j, rfl⟩ := S.surj p
  rw [max_le_iff]
  constructor
  · rintro ⟨h1, h2⟩
    have hT : T < w (σ j) := lt_of_lt_of_le S.lt h2
    refine ⟨j, ?_, rfl, hT⟩
    by_contra hj
    have all : ∀ i : Fin P, i.val < M + 1 → T < w (σ i) := fun i hi =>
      lt_of_lt_of_le hT (S.anti _ _ (by simp only [Fin.le_def]; omega))
    rw [S.iter_eq h0 M (by omega) (by omega) fun i hi => all i (by omega)] at h1
    rcases S.strict ⟨M, by omega⟩ (by simp [hN]) ⟨M + 1, hP⟩ rfl with h3 | h3
    · exact absurd (lt_of_le_of_lt (S.anti ⟨M + 1, hP⟩ j (by simp only [Fin.le_def]; omega)) h3) (not_lt.mpr h1)
    · exact absurd (all ⟨M, by omega⟩ (by simp)) (not_lt.mpr h3)
  · rintro ⟨i, hi, hji, hT⟩
    obtain rfl := S.inj hji
    refine ⟨?_, (S.gap _).resolve_left (not_le.mpr hT)⟩
    refine le_trans (S.iter_anti h0 (by omega : j.val ≤ M)) ?_
    rw [S.iter_eq h0 j.val j.isLt (by omega) fun k hk => lt_of_lt_of_le hT (S.anti _ _ (by simp only [Fin.le_def]; omega))]

/-- A sum over all vertices of what is selected is the sum over the listed ones. -/
theorem Sorted.sum_selected {M : ℕ} (hP : M + 1 < P) (hN : N = M + 1) (a : Fin P → EReal) :
    (∑ p, a p * (if max (iterMax w M) U ≤ w p then w p else 0))
      = ∑ i : Fin (M + 1), a (σ ⟨i.val, by omega⟩) *
          (if T < w (σ ⟨i.val, by omega⟩) then w (σ ⟨i.val, by omega⟩) else 0) := by
  classical
  symm
  refine Finset.sum_of_injOn (fun i : Fin (M + 1) => σ ⟨i.val, by omega⟩) ?_ ?_ ?_ ?_
  · intro i _ j _ h
    have := S.inj h
    simpa [Fin.ext_iff] using this
  · intro _ _; simp
  · intro p _ hp
    rw [if_neg, mul_zero]
    rw [S.selected hP hN]
    rintro ⟨i, hi, rfl, -⟩
    exact hp ⟨⟨i.val, hi⟩, by simp, rfl⟩
  · intro i _
    by_cases hT : T < w (σ ⟨i.val, by omega⟩)
    · rw [if_pos hT, if_pos ((S.selected hP hN _).mpr ⟨⟨i.val, by omega⟩, i.isLt, rfl, hT⟩)]
    · rw [if_neg hT, if_neg]
      rw [S.selected hP hN]
      rintro ⟨_, _, _, h⟩
      exact hT h

end Sorted

end Cert.Rasterize

end
-- ==== Proof.Spec.lean ====
/- What the results are at a pixel, as functions of the weights there and of the vertices' attributes. -/
module

public import proofs.«01_k».proof.Proof.Consts
public import proofs.«01_k».proof.Proof.Select

@[expose] public section

noncomputable section

namespace Cert.Rasterize

open Idealize.ShloMosaic

/-- The weight that a vertex counts with at a pixel: its own when it is selected, zero otherwise. -/
def sel (w : Fin 1152 → EReal) (p : Fin 1152) : EReal := if max (iterMax w 9) thrUp ≤ w p then w p else 0

/-- The sum of an attribute's entries by the weights that they count with. -/
def interp (w : Fin 1152 → EReal) (a : Fin 1152 → EReal) : EReal := ∑ p, a p * sel w p

/-- The value cut to the interval from zero to one. -/
def clip01 (x : EReal) : EReal := min 1 (max 0 x)

/-- The soft maximum: the exponentials of the distances from the greatest entry, by their sum. -/
def soft {K : ℕ} (f : Fin K → EReal) (k : Fin K) : EReal :=
  Ideal.div (Ideal.exp (f k - Finset.univ.fold max ⊥ f)) (∑ c, Ideal.exp (f c - Finset.univ.fold max ⊥ f))

/-- The small number under the root. -/
def eps : EReal := Ideal.ofBits .f32 0x2B8CBCCC#32

/-- An entry by the root of the sum of squares (and a small number). -/
def normed {K : ℕ} (f : Fin K → EReal) (k : Fin K) : EReal :=
  Ideal.div (f k) (Ideal.sqrt ((∑ c, f c * f c) + eps))

/-- A coordinate over the depth: the depth shifted by five and kept from below. -/
def proj (a z : EReal) : EReal :=
  Ideal.div a (max (z + Ideal.ofBits .f32 0x40A00000#32) (Ideal.ofBits .f32 0x3F000000#32))

/-- The coordinate of pixel `i` of a row of 64 from minus one to one. -/
def gridAt (i : Fin 64) : EReal :=
  if i.val < 63 then
    Ideal.ofBits .f32 0xBF800000#32
        * (1 - Ideal.div (FloatOps.sitofp (F := Ideal) .f32 (BitVec.ofNat 32 i.val)) (Ideal.ofBits .f32 0x427C0000#32))
      + 1 * Ideal.div (FloatOps.sitofp (F := Ideal) .f32 (BitVec.ofNat 32 i.val)) (Ideal.ofBits .f32 0x427C0000#32)
  else 1

end Cert.Rasterize

end
-- ==== Proof.KernelEntry.lean ====
/- What the kernel's operand arrays hold when its region starts, at an entry, from the arguments. -/
module

public import proofs.«01_k».proof.Proof.Gen.KernelIdeal.Frame
public import proofs.«01_k».proof.Proof.Spec
public import Idealize.ShloMosaic.Lib.Pointwise
public import Idealize.ShloMosaic.Lib.Claim

@[expose] public section

set_option maxRecDepth 16384

noncomputable section

namespace Cert.Rasterize

open Idealize.ShloMosaic Idealize.ShloMosaic.TcCoe Idealize.SL.Sem Cert.KernelIdeal Cert.KernelIdeal.Gen

/-- Entry `(k, x)` of the column replication: one where the resized column `x` reads column `k`. -/
theorem rep_words : ∀ (k : Fin 64) (x : Fin 224), lit0 ⟨224 * k.val + x.val, by have := k.isLt; have := x.isLt; show _ < 14336; omega⟩
    = if k.val = (64 * x.val + 32) / 224 then 0x3F800000#32 else 0#32 := by
  decide +kernel

variable (m : (ℓ : Loc nD τ sig) → Buf (Elt Ideal) ℓ) (c : Dev nD)

/-- The projected horizontal coordinate of vertex `p`. -/
theorem entry_px (n : Fin 4) (p : Fin 1152) : (V m c main_v9 : S4x1152x1.Idx → EReal) (ix3 n p 0) = proj ((m ((c.tc : Thread nD τ).loc main_arg0) : S4x1152x3.Idx → EReal) (ix3 n p 0)) ((m ((c.tc : Thread nD τ).loc main_arg0) : S4x1152x3.Idx → EReal) (ix3 n p 2)) := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.reshape,
    StableHlo.TRef.unary, StableHlo.TRef.toBuf, StableHlo.TRef.ofBuf, cast_eq]
  after_results
  unfold proj
  pointwise

/-- The projected vertical coordinate of vertex `p`. -/
theorem entry_py (n : Fin 4) (p : Fin 1152) : (V m c main_v13 : S4x1152x1.Idx → EReal) (ix3 n p 0) = proj ((m ((c.tc : Thread nD τ).loc main_arg0) : S4x1152x3.Idx → EReal) (ix3 n p 1)) ((m ((c.tc : Thread nD τ).loc main_arg0) : S4x1152x3.Idx → EReal) (ix3 n p 2)) := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.reshape,
    StableHlo.TRef.unary, StableHlo.TRef.toBuf, StableHlo.TRef.ofBuf, cast_eq]
  after_results
  unfold proj
  pointwise

/-- The horizontal coordinate of the pixel in row `y`, column `x`. -/
theorem entry_gx (y x : Fin 64) : (V m c main_v18 : S1x4096.Idx → EReal) (ix2 0 ⟨64 * y.val + x.val, by omega⟩) = gridAt x := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.reshape,
    StableHlo.TRef.unary, StableHlo.TRef.toBuf, StableHlo.TRef.ofBuf, cast_eq]
  after_results
  unfold gridAt
  simp only [id_eq]
  pointwise
  split <;> rfl

/-- The vertical coordinate of the pixel in row `y`, column `x`. -/
theorem entry_gy (y x : Fin 64) : (V m c main_v19 : S1x4096.Idx → EReal) (ix2 0 ⟨64 * y.val + x.val, by omega⟩) = gridAt y := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.reshape,
    StableHlo.TRef.unary, StableHlo.TRef.toBuf, StableHlo.TRef.ofBuf, cast_eq]
  after_results
  unfold gridAt
  simp only [id_eq]
  pointwise
  split <;> rfl

/-- The column replication is one where a resized column reads the column. -/
theorem entry_rep (k : Fin 64) (x : Fin 224) : (V m c main_cst : S64x224.Idx → EReal) (ix2 k x) = if k.val = (64 * x.val + 32) / 224 then (1 : EReal) else (0 : EReal) := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.reshape,
    StableHlo.TRef.unary, StableHlo.TRef.toBuf, StableHlo.TRef.ofBuf, cast_eq]
  after_results
  pointwise
  have e : S64x224.rowMajor (ix2 k x) = ⟨224 * k.val + x.val, by have := k.isLt; have := x.isLt; show _ < 14336; omega⟩ :=
    Fin.ext (by
      show (Shape.rowMajorPi ![64, 224] (ix2 k x)).val = _
      rw [Shape.rowMajorPi_succ_val, Shape.rowMajorPi_succ_val]
      simp [Shape.rowMajorPi_zero, ix2]
      omega)
  rw [e, rep_words k x]
  split
  · exact Ideal.ofBits_one_f32
  · exact Ideal.ofBits_zero_f32

end Cert.Rasterize

end
-- ==== Proof.KernelAttr.lean ====
/- The attribute matrix of the kernel at an entry: each row is a column of one argument, the last row is one. -/
module

public import proofs.«01_k».proof.Proof.KernelEntry

@[expose] public section

set_option maxRecDepth 16384

noncomputable section

namespace Cert.Rasterize

open Idealize.ShloMosaic Idealize.ShloMosaic.TcCoe Idealize.SL.Sem Cert.KernelIdeal Cert.KernelIdeal.Gen

variable (m : (ℓ : Loc nD τ sig) → Buf (Elt Ideal) ℓ) (c : Dev nD)

/-- The attribute matrix is four matrices one above the other. -/
theorem attr_eq : (V m c main_v24 : S89x1152.Idx → EReal) = concatenate S89x1152 0 [⟨S12x1152, (V m c main_v20 : S12x1152.Idx → EReal)⟩, ⟨S12x1152, (V m c main_v21 : S12x1152.Idx → EReal)⟩, ⟨S64x1152, (V m c main_v22 : S64x1152.Idx → EReal)⟩, ⟨S1x1152, (V m c main_v23 : S1x1152.Idx → EReal)⟩] concatenates_S12x1152_S12x1152_S64x1152_S1x1152_S89x1152_d0 := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.reshape,
    StableHlo.TRef.unary, StableHlo.TRef.toBuf, StableHlo.TRef.ofBuf, cast_eq]
  simp only [StableHlo.after_cons, StableHlo.after_nil]
  generalize (fun i : S64x224.Idx => FloatOps.ofBits (F := Ideal) .f32 (lit0 (S64x224.rowMajor i))) = K
  rw [StableHlo.nary_result]
  repeat rw [StableHlo.nary_result_ne _ _ _ _ _ (by decide)]
  rfl

/-- The transposed part scores. -/
theorem entry_v20 (k : Fin 12) (p : Fin 1152) : (V m c main_v20 : S12x1152.Idx → EReal) (ix2 k p) = (m ((c.tc : Thread nD τ).loc main_arg3) : S1152x12.Idx → EReal) (ix2 p k) := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.reshape,
    StableHlo.TRef.unary, StableHlo.TRef.toBuf, StableHlo.TRef.ofBuf, cast_eq]
  after_results
  pointwise

/-- The transposed orientations. -/
theorem entry_v21 (k : Fin 12) (p : Fin 1152) : (V m c main_v21 : S12x1152.Idx → EReal) (ix2 k p) = (m ((c.tc : Thread nD τ).loc main_arg2) : S1152x12.Idx → EReal) (ix2 p k) := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.reshape,
    StableHlo.TRef.unary, StableHlo.TRef.toBuf, StableHlo.TRef.ofBuf, cast_eq]
  after_results
  pointwise

/-- The transposed features. -/
theorem entry_v22 (k : Fin 64) (p : Fin 1152) : (V m c main_v22 : S64x1152.Idx → EReal) (ix2 k p) = (m ((c.tc : Thread nD τ).loc main_arg4) : S1152x64.Idx → EReal) (ix2 p k) := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.reshape,
    StableHlo.TRef.unary, StableHlo.TRef.toBuf, StableHlo.TRef.ofBuf, cast_eq]
  after_results
  pointwise

/-- The row of ones. -/
theorem entry_v23 (p : Fin 1152) : (V m c main_v23 : S1x1152.Idx → EReal) (ix2 0 p) = (1 : EReal) := by
  unfold V V0
  simp only [hostOps0, hostOps0_1, hostOps0_2, hostOps0_3, hostOps0_4, List.flatten_cons, List.flatten_nil, List.append_nil,
    List.cons_append, List.nil_append, StableHlo.TRef.binary, StableHlo.TRef.nullary, StableHlo.TRef.reshape,
    StableHlo.TRef.unary, StableHlo.TRef.toBuf, StableHlo.TRef.ofBuf, cast_eq]
  after_results
  pointwise

/-- The rows of the attribute matrix that hold the part scores. -/
theorem attr_part (k : Fin 12) (p : Fin 1152) : (V m c main_v24 : S89x1152.Idx → EReal) (ix2 ⟨k.val, by omega⟩ p) =
    (m ((c.tc : Thread nD τ).loc main_arg3) : S1152x12.Idx → EReal) (ix2 p k) := by
  rw [attr_eq]
  refine Eq.trans ?_ (entry_v20 m c k p)
  pointwise

/-- The rows of the attribute matrix that hold the orientations. -/
theorem attr_orient (k : Fin 12) (p : Fin 1152) : (V m c main_v24 : S89x1152.Idx → EReal) (ix2 ⟨12 + k.val, by omega⟩ p) =
    (m ((c.tc : Thread nD τ).loc main_arg2) : S1152x12.Idx → EReal) (ix2 p k) := by
  rw [attr_eq]
  refine Eq.trans ?_ (entry_v21 m c k p)
  pointwise

/-- The rows of the attribute matrix that hold the features. -/
theorem attr_feature (k : Fin 64) (p : Fin 1152) : (V m c main_v24 : S89x1152.Idx → EReal) (ix2 ⟨24 + k.val, by omega⟩ p) =
    (m ((c.tc : Thread nD τ).loc main_arg4) : S1152x64.Idx → EReal) (ix2 p k) := by
  rw [attr_eq]
  refine Eq.trans ?_ (entry_v22 m c k p)
  pointwise
  rw [dif_neg (by omega), dif_neg (by omega), dif_pos (by omega)]
  simp only [show 24 + k.val - 12 - 12 = k.val by omega]

/-- The last row of the attribute matrix. -/
theorem attr_one (p : Fin 1152) : (V m c main_v24 : S89x1152.Idx → EReal) (ix2 ⟨88, by omega⟩ p) = (1 : EReal) := by
  rw [attr_eq, ← entry_v23 m c p]
  pointwise

end Cert.Rasterize

end
-- ==== Proof.Weight.lean ====
/- One gaussian weight: the kernel's power of two of scaled coordinates is the reference's exponential. -/
module

public import proofs.«01_k».proof.Proof.Consts

@[expose] public section

noncomputable section

namespace Cert.Rasterize

open Idealize.ShloMosaic

/-- The scale, as the reals name it: its square times `log 2` is 150. -/
def scaleR : ℝ := Real.sqrt (150 * (Real.log 2)⁻¹)

/-- The logarithm of two is positive. -/
theorem log_two_pos : 0 < Real.log 2 := Real.log_pos (by norm_num)

/-- The scale squared, by the logarithm of two, is 150. -/
theorem scaleR_sq : scaleR * scaleR * Real.log 2 = 150 := by
  unfold scaleR
  rw [Real.mul_self_sqrt (by have := log_two_pos; positivity)]
  field_simp [log_two_pos.ne']

/-- The scale is not negative. -/
theorem scaleR_nonneg : 0 ≤ scaleR := Real.sqrt_nonneg _

/-- The squared distance of a pixel and a vertex. -/
def dist2 (x y a b : EReal) : EReal := (x - a) * (x - a) + (y - b) * (y - b)

/-- The reference's weight. -/
def weight (x y a b : EReal) : EReal := Ideal.exp (((-150 : ℝ) : EReal) * dist2 x y a b)

/-- A square is not negative. -/
theorem sq_nonneg' (u : EReal) : 0 ≤ u * u := by
  rcases le_total 0 u with h | h
  · exact mul_nonneg h h
  · rw [← neg_mul_neg]
    have : 0 ≤ -u := by simpa using h
    exact mul_nonneg this this

/-- A squared distance is not negative. -/
theorem dist2_nonneg (x y a b : EReal) : 0 ≤ dist2 x y a b := add_nonneg (sq_nonneg' _) (sq_nonneg' _)

/-- The scale distributes over a difference. -/
theorem scale_sub (x a : EReal) : ((scaleR : ℝ) : EReal) * x - (scaleR : EReal) * a = (scaleR : EReal) * (x - a) := by
  have h0 : (0 : EReal) ≤ (scaleR : EReal) := by exact_mod_cast scaleR_nonneg
  rw [sub_eq_add_neg, sub_eq_add_neg, EReal.left_distrib_of_nonneg_of_ne_top h0 (EReal.coe_ne_top _), mul_neg]

/-- The scaled squared distance is the squared distance times the square of the scale. -/
theorem scale_dist2 (x y a b : EReal) :
    dist2 ((scaleR : EReal) * x) ((scaleR : EReal) * y) ((scaleR : EReal) * a) ((scaleR : EReal) * b)
      = ((scaleR * scaleR : ℝ) : EReal) * dist2 x y a b := by
  have h0 : (0 : EReal) ≤ ((scaleR * scaleR : ℝ) : EReal) := by exact_mod_cast mul_self_nonneg _
  unfold dist2
  rw [scale_sub, scale_sub, EReal.left_distrib_of_nonneg_of_ne_top h0 (EReal.coe_ne_top _), EReal.coe_mul]
  congr 1 <;> exact mul_mul_mul_comm _ _ _ _

/-- The kernel's weight is the reference's. -/
theorem weight_eq (x y a b : EReal) :
    Ideal.exp2 (0 - dist2 ((scaleR : EReal) * x) ((scaleR : EReal) * y) ((scaleR : EReal) * a) ((scaleR : EReal) * b))
      = weight x y a b := by
  rw [scale_dist2, weight]
  have h := dist2_nonneg x y a b
  generalize dist2 x y a b = d at h ⊢
  have hs : 0 < scaleR * scaleR := by
    have := scaleR_sq
    by_contra hn
    have := mul_nonpos_of_nonpos_of_nonneg (not_lt.mp hn) log_two_pos.le
    linarith
  induction d with
  | bot => exact absurd h (by simp)
  | top =>
    rw [EReal.coe_mul_top_of_pos hs, EReal.coe_mul_top_of_neg (by norm_num)]
    simp
  | coe r =>
    rw [← EReal.coe_mul, ← EReal.coe_mul, ← EReal.coe_zero, ← EReal.coe_sub, Ideal.exp2_coe, Ideal.exp_coe]
    congr 1
    show (2 : ℝ) ^ (0 - scaleR * scaleR * r) = _
    rw [Real.rpow_def_of_pos (by norm_num)]
    congr 1
    linear_combination (-r) * scaleR_sq

/-- A weight is not negative. -/
theorem weight_nonneg (x y a b : EReal) : 0 ≤ weight x y a b := by
  unfold weight
  generalize ((-150 : ℝ) : EReal) * dist2 x y a b = e
  induction e with
  | bot => simp
  | top => simp
  | coe r => rw [Ideal.exp_coe]; exact_mod_cast (Real.exp_pos r).le

end Cert.Rasterize

end
-- ==== Proof.KernelWeight.lean ====
/- What one block of the kernel computes first: the weights, the iterated maxima, the selected weights. -/
module

public import proofs.«01_k».proof.Proof.Gen.KernelIdeal.Skeleton
public import proofs.«01_k».proof.Proof.Weight
public import proofs.«01_k».proof.Proof.Spec

@[expose] public section

set_option maxRecDepth 16384

noncomputable section

namespace Cert.Rasterize

open Idealize.ShloMosaic Cert.KernelIdeal Cert.KernelIdeal.Gen

/-- The named constant's value. -/
theorem named_s : Named.named (F := Ideal) (φ := .f32) Cert.KernelIdeal.κ "s" 0x416B5EF7#32 = ((scaleR : ℝ) : EReal) :=
  IdealRules.named_const.ideal_named_scalar _ _ _ _ rfl

/-- The kernel's weights. -/
theorem pay6_apply (x0 x1 : Vec Ideal S1x1152x1 .f32) (x2 x3 : Vec Ideal S1x2048 .f32) (p : Fin 1152) (q : Fin 2048) :
    k0_pay6 x0 x1 x2 x3 (ix2 p q)
      = weight (x2 (ix2 0 q)) (x3 (ix2 0 q)) (x0 (ix3 0 p 0)) (x1 (ix3 0 p 0)) := by
  rw [← weight_eq, dist2]
  pointwise [k0_pay6, named_s]
  rfl

/-- One maximum from the last: of the weights below it, `-1` standing for the others. -/
def stepMax (w : FVec Ideal S1152x2048 .f32) (m : FVec Ideal S1x2048 .f32) : FVec Ideal S1x2048 .f32 :=
  shapeCast S1x2048 (multiReduction .maximumf [0] S2048
    (select (cmpf .olt w (broadcastTo S1152x2048 m broadcasts_S1x2048_S1152x2048)) w
      (broadcast S1152x2048 (Scalar.ofBits .f32 0xBF800000#32)))
    0xFF800000#32 reduces_S1152x2048_S2048 (.inl rfl) rfl) shapeCasts_S2048_S1x2048

/-- One step of the iterated maximum, at a pixel. -/
theorem stepMax_apply (w : FVec Ideal S1152x2048 .f32) (m : FVec Ideal S1x2048 .f32) (q : Fin 2048) :
    stepMax w m (ix2 0 q) = nextMax (fun p : Fin 1152 => w (ix2 p q)) (m (ix2 0 q)) := by
  unfold nextMax
  rw [← ofBits_neg1, ← ofBits_negInf]
  pointwise [stepMax]

/-- The first maximum. -/
theorem pay7_apply (x0 x1 : Vec Ideal S1x1152x1 .f32) (x2 x3 : Vec Ideal S1x2048 .f32) (q : Fin 2048) :
    k0_pay7 x0 x1 x2 x3 (ix2 0 q) = iterMax (fun p : Fin 1152 => k0_pay6 x0 x1 x2 x3 (ix2 p q)) 0 := by
  rw [iterMax, ← ofBits_negInf]
  pointwise [k0_pay7]

/-- The last of the kernel's maxima is nine steps from the first. -/
theorem pay10_eq (x0 x1 : Vec Ideal S1x1152x1 .f32) (x2 x3 : Vec Ideal S1x2048 .f32) :
    k0_pay10 (k0_pay6 x0 x1 x2 x3) (k0_pay8 x0 x1 x2 x3) k0_pay9
      = (stepMax (k0_pay6 x0 x1 x2 x3))^[9] (k0_pay7 x0 x1 x2 x3) := rfl

/-- The iterated steps, at a pixel. -/
theorem stepMax_iterate (w : FVec Ideal S1152x2048 .f32) (m : FVec Ideal S1x2048 .f32) (q : Fin 2048)
    (h : m (ix2 0 q) = iterMax (fun p : Fin 1152 => w (ix2 p q)) 0) (k : ℕ) :
    (stepMax w)^[k] m (ix2 0 q) = iterMax (fun p : Fin 1152 => w (ix2 p q)) k := by
  induction k with
  | zero => exact h
  | succ k ih => rw [Function.iterate_succ_apply', stepMax_apply, ih]; rfl

/-- The tenth maximum, at a pixel. -/
theorem pay10_apply (x0 x1 : Vec Ideal S1x1152x1 .f32) (x2 x3 : Vec Ideal S1x2048 .f32) (q : Fin 2048) :
    k0_pay10 (k0_pay6 x0 x1 x2 x3) (k0_pay8 x0 x1 x2 x3) k0_pay9 (ix2 0 q)
      = iterMax (fun p : Fin 1152 => k0_pay6 x0 x1 x2 x3 (ix2 p q)) 9 := by
  rw [pay10_eq]
  exact stepMax_iterate _ _ q (pay7_apply x0 x1 x2 x3 q) 9

/-- The selected weights. -/
theorem pay11_apply (w : FVec Ideal S1152x2048 .f32) (m : FVec Ideal S1x2048 .f32) (p : Fin 1152) (q : Fin 2048) :
    k0_pay11 w m (ix2 p q) = if max (m (ix2 0 q)) thrUp ≤ w (ix2 p q) then w (ix2 p q) else 0 := by
  rw [← ofBits_thrUp]
  pointwise [k0_pay11]

/-- The attributes' sums at a pixel, as the block's product computes them. -/
theorem dot_apply (w : FVec Ideal S1152x2048 .f32) (m : FVec Ideal S1x2048 .f32) (q : Fin 2048)
    (h : m (ix2 0 q) = iterMax (fun p : Fin 1152 => w (ix2 p q)) 9) (x : Vec Ideal S89x1152 .f32) (c : Fin 89) :
    (∑ p : Fin 1152, x (ix2 c p) * k0_pay11 w m (ix2 p q))
      = interp (fun p : Fin 1152 => w (ix2 p q)) (fun p => x (ix2 c p)) := by
  unfold interp sel
  refine Finset.sum_congr rfl fun p _ => ?_
  rw [pay11_apply, h]

section Rows

variable (w : FVec Ideal S1152x2048 .f32) (m1 m : FVec Ideal S1x2048 .f32) (x : Vec Ideal S89x1152 .f32) (q : Fin 2048)
  (h : m (ix2 0 q) = iterMax (fun p : Fin 1152 => w (ix2 p q)) 9)
include h

/-- Rows 0 to 11 of a block's result: the parts. -/
theorem pay12_part (k : Fin 12) :
    k0_pay12 w m1 m x (ix2 ⟨k.val, by omega⟩ q)
      = interp (fun p : Fin 1152 => w (ix2 p q)) (fun p => x (ix2 ⟨k.val, by omega⟩ p)) := by
  rw [← dot_apply w m q h]
  pointwise [k0_pay12]

/-- Rows 12 to 23: the soft maxima of the orientations. -/
theorem pay12_orient (k : Fin 12) :
    k0_pay12 w m1 m x (ix2 ⟨12 + k.val, by omega⟩ q)
      = soft (fun c : Fin 12 => interp (fun p : Fin 1152 => w (ix2 p q)) (fun p => x (ix2 ⟨12 + c.val, by omega⟩ p))) k := by
  unfold soft
  simp only [← dot_apply w m q h]
  rw [← ofBits_negInf]
  pointwise [k0_pay12]

/-- Rows 24 to 87: the features by their norm. -/
theorem pay12_feature (k : Fin 64) :
    k0_pay12 w m1 m x (ix2 ⟨24 + k.val, by omega⟩ q)
      = normed (fun c : Fin 64 => interp (fun p : Fin 1152 => w (ix2 p q)) (fun p => x (ix2 ⟨24 + c.val, by omega⟩ p))) k := by
  unfold normed
  simp only [← dot_apply w m q h]
  pointwise [k0_pay12]
  rw [dif_neg (by omega), dif_neg (by omega), dif_pos (by omega)]
  simp only [show 24 + (24 + k.val - 12 - 12) = 24 + k.val by omega]
  rfl

/-- Row 88: the silhouette. -/
theorem pay12_sum :
    k0_pay12 w m1 m x (ix2 88 q) = clip01 (interp (fun p : Fin 1152 => w (ix2 p q)) (fun p => x (ix2 88 p))) := by
  unfold clip01
  simp only [← dot_apply w m q h]
  pointwise [k0_pay12]

end Rows

/-- Row 89: whether any weight passes the threshold. -/
theorem pay12_mask (w : FVec Ideal S1152x2048 .f32) (m1 m : FVec Ideal S1x2048 .f32) (x : Vec Ideal S89x1152 .f32)
    (q : Fin 2048) : k0_pay12 w m1 m x (ix2 89 q) = if thr < m1 (ix2 0 q) then 1 else 0 := by
  rw [← ofBits_thr]
  pointwise [k0_pay12]
  by_cases hq : Ideal.ofBits .f32 0x38D1B717#32 < m1 (ix2 0 q)
  · rw [decide_eq_true hq, if_pos hq]
    show (((BitVec.setWidth 32 (BitVec.ofBool true)).toInt : ℝ) : EReal) = 1
    simp
  · rw [decide_eq_false hq, if_neg hq]
    show (((BitVec.setWidth 32 (BitVec.ofBool false)).toInt : ℝ) : EReal) = 0
    simp

end Cert.Rasterize

end
-- ==== Proof.KernelBlock.lean ====
/- What one grid point of the kernel leaves in each output block, as a function of its input blocks. -/
module

public import proofs.«01_k».proof.Proof.Gen.KernelIdeal.Frame
public import proofs.«01_k».proof.Proof.KernelWeight
public import Idealize.ShloMosaic.Lib.Pipeline.Value

@[expose] public section

set_option maxRecDepth 16384

noncomputable section

namespace Cert.Rasterize

open Idealize.ShloMosaic Idealize.ShloMosaic.TcCoe Idealize.SL.Sem Cert.KernelIdeal Cert.KernelIdeal.Gen

/-- Pixel row `j` of the block through the column replication: entry `k` of the row at column `x`. -/
def rowAt (pr : S90x2048.Idx → EReal) (rep : S64x224.Idx → EReal) (k : Fin 90) (j : ℕ) (x : Fin 224) : EReal :=
  if h : j < 32 then ∑ c : Fin 64, pr (ix2 k ⟨64 * j + c.val, by omega⟩) * rep (ix2 c x) else 0

/-- A row of the replication starting at column `m` of the block is pixel row `m / 64`. -/
theorem rowAt_of (pr : S90x2048.Idx → EReal) (rep : S64x224.Idx → EReal) (k k' : Fin 90) (j' m : ℕ) (x x' : Fin 224)
    (hm : m < 2048 ∧ 64 ∣ m) (hk : k'.val = k.val) (hx : x'.val = x.val) (hj' : j' = m / 64) :
    ∑ c : Fin 64, pr (ix2 k ⟨m + c.val, by omega⟩) * rep (ix2 c x) = rowAt pr rep k' j' x' := by
  obtain rfl := Fin.ext hk
  obtain rfl := Fin.ext hx
  obtain ⟨h, j, rfl⟩ := hm
  rw [Nat.mul_div_cancel_left j (by decide)] at hj'
  subst hj'
  unfold rowAt
  rw [dif_pos (by omega)]

/-- The first pixel row of the block. -/
theorem rowAt_zero (pr : S90x2048.Idx → EReal) (rep : S64x224.Idx → EReal) (k k' : Fin 90) (j' : ℕ) (x x' : Fin 224)
    (hk : k'.val = k.val) (hx : x'.val = x.val) (hj' : j' = 0) :
    ∑ c : Fin 64, pr (ix2 k ⟨c.val, by omega⟩) * rep (ix2 c x) = rowAt pr rep k' j' x' := by
  rw [← rowAt_of pr rep k k' j' 0 x x' (by decide) hk hx hj']
  simp only [Nat.zero_add]

/-- Where a unit-stride rectangle puts an index: each axis is shifted by the offset. -/
theorem emb_unit {s : Shape} (off sz : Fin s.rank → ℕ) (inb : ∀ a, off a + sz a ≤ s.size a) (x : (Rect.unit off sz inb).shape.Idx)
    (a : Fin s.rank) : ((Rect.unit off sz inb).emb x a).val = off a + (x a).val := by
  show off a + 1 * _ = _
  rw [Nat.one_mul]

/-- The rows of one tile that the kernel holds before the replication: interpolated part scores, orientation, features,
    silhouette and mask, a column for each pixel. -/
def blockRows (x0 x1 : Vec Ideal S1x1152x1 .f32) (x2 x3 : Vec Ideal S1x2048 .f32) (x4 : Vec Ideal S89x1152 .f32) :
    FVec Ideal S90x2048 .f32 :=
  k0_pay12 (k0_pay6 x0 x1 x2 x3) (k0_pay7 x0 x1 x2 x3) (k0_pay10 (k0_pay6 x0 x1 x2 x3) (k0_pay8 x0 x1 x2 x3) k0_pay9) x4

/-- The zero offset of rank two. -/
theorem zero2 : (![0, 0] : Fin 2 → Nat) = fun _ => 0 := funext fun a => by fin_cases a <;> rfl

/-- The zero offset of rank three. -/
theorem zero3 : (![0, 0, 0] : Fin 3 → Nat) = fun _ => 0 := funext fun a => by fin_cases a <;> rfl

/-- What the resized image holds at row `r`, column `x` of a tile for a row of entries `k`. -/
def tileAt (pr : FVec Ideal S90x2048 .f32) (rep : Vec Ideal S64x224 .f32) (k : Fin 90) (r : Fin 112) (x : Fin 224) : EReal :=
  rowAt pr rep k ((64 * r.val + 32) / 224) x

/-- Output 6 of a tile: the part scores. -/
def tile6 (pr : FVec Ideal S90x2048 .f32) (rep : Vec Ideal S64x224 .f32) : Vec Ideal S1x12x112x224 .f32 := fun y =>
  tileAt pr rep ⟨(y 1).val, Nat.lt_of_lt_of_le (y 1).isLt (by decide)⟩ (y 2) (y 3)

/-- Output 7 of a tile: the orientation weights. -/
def tile7 (pr : FVec Ideal S90x2048 .f32) (rep : Vec Ideal S64x224 .f32) : Vec Ideal S1x12x112x224 .f32 := fun y =>
  tileAt pr rep ⟨12 + (y 1).val, Nat.lt_of_lt_of_le (Nat.add_lt_add_left (y 1).isLt 12) (by decide)⟩ (y 2) (y 3)

/-- Output 8 of a tile: the features. -/
def tile8 (pr : FVec Ideal S90x2048 .f32) (rep : Vec Ideal S64x224 .f32) : Vec Ideal S1x64x112x224 .f32 := fun y =>
  tileAt pr rep ⟨24 + (y 1).val, Nat.lt_of_lt_of_le (Nat.add_lt_add_left (y 1).isLt 24) (by decide)⟩ (y 2) (y 3)

/-- Output 9 of a tile: the mask. -/
def tile9 (pr : FVec Ideal S90x2048 .f32) (rep : Vec Ideal S64x224 .f32) : Vec Ideal S1x112x224 .f32 := fun y =>
  tileAt pr rep 89 (y 1) (y 2)

section First

variable (c : Dev nD) (i : grid0.Coords) (arg2 : Memref sig .tc .vmem S1x1152x1 .f32) (harg2 : arg2.IsWhole) (arg3 : Memref sig .tc .vmem S1x1152x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S89x1152 .f32) (harg6 : arg6.IsWhole) (arg7 : Memref sig .tc .vmem S64x224 .f32) (harg7 : arg7.IsWhole) (arg8 : Memref sig .tc .vmem S1x12x112x224 .f32) (harg8 : arg8.IsWhole) (arg9 : Memref sig .tc .vmem S1x12x112x224 .f32) (harg9 : arg9.IsWhole) (arg10 : Memref sig .tc .vmem S1x64x112x224 .f32) (harg10 : arg10.IsWhole) (arg11 : Memref sig .tc .vmem S1x112x224 .f32) (harg11 : arg11.IsWhole) (arg12 : Memref sig .tc .vmem S1x1x2048 .f32) (harg12 : arg12.IsWhole) (arg13 : Memref sig .tc .vmem S1x1152x1 .f32) (harg13 : arg13.IsWhole) (hc0 : cond0_0 i) (hc1 : ¬cond0_1 i)
variable (x0 : Vec Ideal S1x1152x1 .f32) (x1 : Vec Ideal S1x1152x1 .f32) (x2 : Vec Ideal S1x2048 .f32) (x3 : Vec Ideal S1x2048 .f32) (x4 : Vec Ideal S89x1152 .f32) (x5 : Vec Ideal S64x224 .f32)

/-- The first tile of an image leaves the resized rows in output 6. -/
theorem first_6 : out0_A_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = tile6 (blockRows x0 x1 x2 x3 x4) x5 := by
  funext y
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  refine View.canon_apply_of_pieces (tile6 (blockRows x0 x1 x2 x3 x4) x5) _ ?_ y (cover0_A_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 y)
  unfold kernelRun0_A
  dsimp only
  sl_unfold_words
  simp only [View.readAt_eq_ld, harg2.read_unread, harg3.read_unread, harg4.read_unread, harg5.read_unread,
    harg6.read_unread, harg7.read_unread, View.ld_unit_zero (S := S1x1152x1) zero3, View.ld_unit_zero (S := S1x2048) zero2,
    View.ld_unit_zero (S := S89x1152) zero2, View.ld_unit_zero (S := S64x224) zero2]
  rw [← blockRows.eq_def]
  generalize blockRows x0 x1 x2 x3 x4 = pr
  simp only [List.mem_cons, List.not_mem_nil, or_false, forall_eq_or_imp, forall_eq]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  case refine_32 =>
    intro x
    change S1x12x3x224.Idx at x
    idx_vars x
    unfold_payloads
    pointwise
    refine rowAt_zero pr x5 _ _ _ _ _ ?_ ?_ ?_
    · simp [emb_unit, ix4, ix3]
    · simp [emb_unit, ix4, ix3]
    · simp only [emb_unit]
      show (64 * (0 + x2.val) + 32) / 224 = _
      have := x2.isLt
      omega
  all_goals
    intro x
    first | change S1x12x4x224.Idx at x | change S1x12x3x224.Idx at x
    idx_vars x
    unfold_payloads
    pointwise
    refine rowAt_of pr x5 _ _ _ _ _ _ (by decide) ?_ ?_ ?_
    · simp [emb_unit, ix4, ix3]
    · simp [emb_unit, ix4, ix3]
    · simp only [emb_unit]
      show (64 * (_ + x2.val) + 32) / 224 = _
      simp
      omega

/-- The first tile of an image leaves the resized rows in output 7. -/
theorem first_7 : out0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = tile7 (blockRows x0 x1 x2 x3 x4) x5 := by
  funext y
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  refine View.canon_apply_of_pieces (tile7 (blockRows x0 x1 x2 x3 x4) x5) _ ?_ y (cover0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 y)
  unfold kernelRun0_A
  dsimp only
  sl_unfold_words
  simp only [View.readAt_eq_ld, harg2.read_unread, harg3.read_unread, harg4.read_unread, harg5.read_unread,
    harg6.read_unread, harg7.read_unread, View.ld_unit_zero (S := S1x1152x1) zero3, View.ld_unit_zero (S := S1x2048) zero2,
    View.ld_unit_zero (S := S89x1152) zero2, View.ld_unit_zero (S := S64x224) zero2]
  rw [← blockRows.eq_def]
  generalize blockRows x0 x1 x2 x3 x4 = pr
  simp only [List.mem_cons, List.not_mem_nil, or_false, forall_eq_or_imp, forall_eq]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  case refine_32 =>
    intro x
    change S1x12x3x224.Idx at x
    idx_vars x
    unfold_payloads
    pointwise
    refine rowAt_zero pr x5 _ _ _ _ _ ?_ ?_ ?_
    · simp [emb_unit, ix4, ix3]
    · simp [emb_unit, ix4, ix3]
    · simp only [emb_unit]
      show (64 * (0 + x2.val) + 32) / 224 = _
      have := x2.isLt
      omega
  all_goals
    intro x
    first | change S1x12x4x224.Idx at x | change S1x12x3x224.Idx at x
    idx_vars x
    unfold_payloads
    pointwise
    refine rowAt_of pr x5 _ _ _ _ _ _ (by decide) ?_ ?_ ?_
    · simp [emb_unit, ix4, ix3]
    · simp [emb_unit, ix4, ix3]
    · simp only [emb_unit]
      show (64 * (_ + x2.val) + 32) / 224 = _
      simp
      omega

/-- The first tile of an image leaves the resized rows in output 8. -/
theorem first_8 : out0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = tile8 (blockRows x0 x1 x2 x3 x4) x5 := by
  funext y
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  refine View.canon_apply_of_pieces (tile8 (blockRows x0 x1 x2 x3 x4) x5) _ ?_ y (cover0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 y)
  unfold kernelRun0_A
  dsimp only
  sl_unfold_words
  simp only [View.readAt_eq_ld, harg2.read_unread, harg3.read_unread, harg4.read_unread, harg5.read_unread,
    harg6.read_unread, harg7.read_unread, View.ld_unit_zero (S := S1x1152x1) zero3, View.ld_unit_zero (S := S1x2048) zero2,
    View.ld_unit_zero (S := S89x1152) zero2, View.ld_unit_zero (S := S64x224) zero2]
  rw [← blockRows.eq_def]
  generalize blockRows x0 x1 x2 x3 x4 = pr
  simp only [List.mem_cons, List.not_mem_nil, or_false, forall_eq_or_imp, forall_eq]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  case refine_32 =>
    intro x
    change S1x64x3x224.Idx at x
    idx_vars x
    unfold_payloads
    pointwise
    refine rowAt_zero pr x5 _ _ _ _ _ ?_ ?_ ?_
    · simp [emb_unit, ix4, ix3]
    · simp [emb_unit, ix4, ix3]
    · simp only [emb_unit]
      show (64 * (0 + x2.val) + 32) / 224 = _
      have := x2.isLt
      omega
  all_goals
    intro x
    first | change S1x64x4x224.Idx at x | change S1x64x3x224.Idx at x
    idx_vars x
    unfold_payloads
    pointwise
    refine rowAt_of pr x5 _ _ _ _ _ _ (by decide) ?_ ?_ ?_
    · simp [emb_unit, ix4, ix3]
    · simp [emb_unit, ix4, ix3]
    · simp only [emb_unit]
      show (64 * (_ + x2.val) + 32) / 224 = _
      simp
      omega

/-- The first tile of an image leaves the resized rows in output 9. -/
theorem first_9 : out0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = tile9 (blockRows x0 x1 x2 x3 x4) x5 := by
  funext y
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  refine View.canon_apply_of_pieces (tile9 (blockRows x0 x1 x2 x3 x4) x5) _ ?_ y (cover0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 y)
  unfold kernelRun0_A
  dsimp only
  sl_unfold_words
  simp only [View.readAt_eq_ld, harg2.read_unread, harg3.read_unread, harg4.read_unread, harg5.read_unread,
    harg6.read_unread, harg7.read_unread, View.ld_unit_zero (S := S1x1152x1) zero3, View.ld_unit_zero (S := S1x2048) zero2,
    View.ld_unit_zero (S := S89x1152) zero2, View.ld_unit_zero (S := S64x224) zero2]
  rw [← blockRows.eq_def]
  generalize blockRows x0 x1 x2 x3 x4 = pr
  simp only [List.mem_cons, List.not_mem_nil, or_false, forall_eq_or_imp, forall_eq]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  case refine_32 =>
    intro x
    change S1x3x224.Idx at x
    idx_vars x
    unfold_payloads
    pointwise
    refine rowAt_zero pr x5 _ _ _ _ _ ?_ ?_ ?_
    · simp [emb_unit, ix4, ix3]
    · simp [emb_unit, ix4, ix3]
    · simp only [emb_unit]
      show (64 * (0 + x1.val) + 32) / 224 = _
      have := x1.isLt
      omega
  all_goals
    intro x
    first | change S1x4x224.Idx at x | change S1x3x224.Idx at x
    idx_vars x
    unfold_payloads
    pointwise
    refine rowAt_of pr x5 _ _ _ _ _ _ (by decide) ?_ ?_ ?_
    · simp [emb_unit, ix4, ix3]
    · simp [emb_unit, ix4, ix3]
    · simp only [emb_unit]
      show (64 * (_ + x1.val) + 32) / 224 = _
      simp
      omega

/-- The first tile leaves its silhouette row in output 10. -/
theorem first_10 : out0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay13 (k0_pay6 x0 x1 x2 x3) (k0_pay7 x0 x1 x2 x3) (k0_pay10 (k0_pay6 x0 x1 x2 x3) (k0_pay8 x0 x1 x2 x3) k0_pay9) x4 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  simp only [View.readAt_eq_ld, harg2.read_unread, harg3.read_unread, harg4.read_unread, harg5.read_unread,
    harg6.read_unread, harg7.read_unread, View.ld_unit_zero (S := S1x1152x1) zero3, View.ld_unit_zero (S := S1x2048) zero2,
    View.ld_unit_zero (S := S89x1152) zero2, View.ld_unit_zero (S := S64x224) zero2]
  rw [View.canon_unit_zero zero3]

/-- The first tile leaves the greatest weight of each vertex over its pixels in output 11. -/
theorem first_11 : out0_A_11 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay4 (k0_pay11 (k0_pay6 x0 x1 x2 x3) (k0_pay10 (k0_pay6 x0 x1 x2 x3) (k0_pay8 x0 x1 x2 x3) k0_pay9)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  simp only [View.readAt_eq_ld, harg2.read_unread, harg3.read_unread, harg4.read_unread, harg5.read_unread,
    harg6.read_unread, harg7.read_unread, View.ld_unit_zero (S := S1x1152x1) zero3, View.ld_unit_zero (S := S1x2048) zero2,
    View.ld_unit_zero (S := S89x1152) zero2, View.ld_unit_zero (S := S64x224) zero2]
  rw [View.canon_unit_zero zero3]

end First

section Second

variable (c : Dev nD) (i : grid0.Coords) (arg2 : Memref sig .tc .vmem S1x1152x1 .f32) (harg2 : arg2.IsWhole) (arg3 : Memref sig .tc .vmem S1x1152x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S89x1152 .f32) (harg6 : arg6.IsWhole) (arg7 : Memref sig .tc .vmem S64x224 .f32) (harg7 : arg7.IsWhole) (arg8 : Memref sig .tc .vmem S1x12x112x224 .f32) (harg8 : arg8.IsWhole) (arg9 : Memref sig .tc .vmem S1x12x112x224 .f32) (harg9 : arg9.IsWhole) (arg10 : Memref sig .tc .vmem S1x64x112x224 .f32) (harg10 : arg10.IsWhole) (arg11 : Memref sig .tc .vmem S1x112x224 .f32) (harg11 : arg11.IsWhole) (arg12 : Memref sig .tc .vmem S1x1x2048 .f32) (harg12 : arg12.IsWhole) (arg13 : Memref sig .tc .vmem S1x1152x1 .f32) (harg13 : arg13.IsWhole) (hc0 : ¬cond0_0 i) (hc1 : cond0_1 i)
variable (x0 : Vec Ideal S1x1152x1 .f32) (x1 : Vec Ideal S1x1152x1 .f32) (x2 : Vec Ideal S1x2048 .f32) (x3 : Vec Ideal S1x2048 .f32) (x4 : Vec Ideal S89x1152 .f32) (x5 : Vec Ideal S64x224 .f32) (xo11 : Vec Ideal S1x1152x1 .f32)

/-- The second tile of an image stores into output 6 what the first tile does. -/
theorem second_6 (i' : grid0.Coords) (hc0' : cond0_0 i') (hc1' : ¬cond0_1 i') :
    out0_B_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo11
      = out0_A_6 c i' arg2 harg2 arg3 harg3 arg4 harg4 arg5 harg5 arg6 harg6 arg7 harg7 arg8 harg8 arg9 harg9 arg10 harg10 arg11 harg11 arg12 harg12 arg13 harg13 hc0' hc1' x0 x1 x2 x3 x4 x5 := by
  unfold out0_A_6 out0_B_6 kernelRun0_A kernelRun0_B
  dsimp only
  sl_unfold_words
  rfl

/-- The second tile of an image stores into output 7 what the first tile does. -/
theorem second_7 (i' : grid0.Coords) (hc0' : cond0_0 i') (hc1' : ¬cond0_1 i') :
    out0_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo11
      = out0_A_7 c i' arg2 harg2 arg3 harg3 arg4 harg4 arg5 harg5 arg6 harg6 arg7 harg7 arg8 harg8 arg9 harg9 arg10 harg10 arg11 harg11 arg12 harg12 arg13 harg13 hc0' hc1' x0 x1 x2 x3 x4 x5 := by
  unfold out0_A_7 out0_B_7 kernelRun0_A kernelRun0_B
  dsimp only
  sl_unfold_words
  rfl

/-- The second tile of an image stores into output 8 what the first tile does. -/
theorem second_8 (i' : grid0.Coords) (hc0' : cond0_0 i') (hc1' : ¬cond0_1 i') :
    out0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo11
      = out0_A_8 c i' arg2 harg2 arg3 harg3 arg4 harg4 arg5 harg5 arg6 harg6 arg7 harg7 arg8 harg8 arg9 harg9 arg10 harg10 arg11 harg11 arg12 harg12 arg13 harg13 hc0' hc1' x0 x1 x2 x3 x4 x5 := by
  unfold out0_A_8 out0_B_8 kernelRun0_A kernelRun0_B
  dsimp only
  sl_unfold_words
  rfl

/-- The second tile of an image stores into output 9 what the first tile does. -/
theorem second_9 (i' : grid0.Coords) (hc0' : cond0_0 i') (hc1' : ¬cond0_1 i') :
    out0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo11
      = out0_A_9 c i' arg2 harg2 arg3 harg3 arg4 harg4 arg5 harg5 arg6 harg6 arg7 harg7 arg8 harg8 arg9 harg9 arg10 harg10 arg11 harg11 arg12 harg12 arg13 harg13 hc0' hc1' x0 x1 x2 x3 x4 x5 := by
  unfold out0_A_9 out0_B_9 kernelRun0_A kernelRun0_B
  dsimp only
  sl_unfold_words
  rfl

/-- The second tile of an image stores into output 10 what the first tile does. -/
theorem second_10 (i' : grid0.Coords) (hc0' : cond0_0 i') (hc1' : ¬cond0_1 i') :
    out0_B_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo11
      = out0_A_10 c i' arg2 harg2 arg3 harg3 arg4 harg4 arg5 harg5 arg6 harg6 arg7 harg7 arg8 harg8 arg9 harg9 arg10 harg10 arg11 harg11 arg12 harg12 arg13 harg13 hc0' hc1' x0 x1 x2 x3 x4 x5 := by
  unfold out0_A_10 out0_B_10 kernelRun0_A kernelRun0_B
  dsimp only
  sl_unfold_words
  rfl

/-- The second tile keeps the greater of its greatest weights and those held before. -/
theorem second_11 : out0_B_11 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo11 = k0_pay5 (k0_pay11 (k0_pay6 x0 x1 x2 x3) (k0_pay10 (k0_pay6 x0 x1 x2 x3) (k0_pay8 x0 x1 x2 x3) k0_pay9)) xo11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo11)]
  unfold kernelRun0_B
  dsimp only
  sl_unfold_words
  simp only [View.readAt_eq_ld, harg2.read_unread, harg3.read_unread, harg4.read_unread, harg5.read_unread,
    harg6.read_unread, harg7.read_unread, harg13.read_unread, View.ld_unit_zero (S := S1x1152x1) zero3, View.ld_unit_zero (S := S1x2048) zero2,
    View.ld_unit_zero (S := S89x1152) zero2, View.ld_unit_zero (S := S64x224) zero2]
  rw [View.canon_unit_zero zero3]

end Second

end Cert.Rasterize

end
-- ==== Proof.Results.lean ====
/- The six results as functions of the arguments, entry by entry. -/
module

public import proofs.«01_k».proof.Proof.Spec
public import proofs.«01_k».proof.Proof.Weight

@[expose] public section

noncomputable section

namespace Cert.Rasterize

open Idealize.ShloMosaic

/-- The vertices' positions, and the columns of an attribute. -/
abbrev Verts := (⟨3, ![4, 1152, 3]⟩ : Shape).Idx → EReal

/-- The weights of the vertices of image `n` at the pixel in row `y`, column `x`. -/
def wAt (v : Verts) (n : Fin 4) (y x : Fin 64) (p : Fin 1152) : EReal :=
  weight (gridAt x) (gridAt y) (proj (v (ix3 n p 0)) (v (ix3 n p 2))) (proj (v (ix3 n p 1)) (v (ix3 n p 2)))

/-- The row or column of the rendered image that a row or column of the resized one shows. -/
def src (i : Fin 224) : Fin 64 := ⟨(64 * i.val + 32) / 224, by omega⟩

/-- Whether any vertex is near the pixel. -/
def maskAt (v : Verts) (n : Fin 4) (y x : Fin 64) : EReal := if thr < iterMax (wAt v n y x) 0 then 1 else 0

/-- The sum of the selected weights, cut to the interval from zero to one. -/
def coverAt (v : Verts) (n : Fin 4) (y x : Fin 64) : EReal := clip01 (interp (wAt v n y x) fun _ => 1)

/-- An attribute's columns at a pixel. -/
def attrAt {K : ℕ} (v : Verts) (a : (⟨2, ![1152, K]⟩ : Shape).Idx → EReal) (n : Fin 4) (y x : Fin 64) (k : Fin K) : EReal :=
  interp (wAt v n y x) fun p => a (ix2 p k)

/-- The greatest weight that a vertex counts with over the pixels of rows `32 t` to `32 t + 31`. -/
def seenIn (v : Verts) (n : Fin 4) (t : Fin 2) (p : Fin 1152) : EReal :=
  Finset.univ.fold max ⊥ fun q : Fin 2048 => sel (wAt v n ⟨32 * t.val + q.val / 64, by omega⟩ ⟨q.val % 64, by omega⟩) p

/-- Whether a vertex is seen. -/
def visAt (v : Verts) (n : Fin 4) (p : Fin 1152) : BitVec 32 :=
  if 0 < max (seenIn v n 0 p) (seenIn v n 1 p) then 1 else 0

end Cert.Rasterize

end
-- ==== Proof.KernelPoints.lean ====
/- What one grid point of the kernel leaves in its output blocks, from the arguments. -/
module

public import proofs.«01_k».proof.Proof.KernelAttr
public import proofs.«01_k».proof.Proof.KernelBlock
public import proofs.«01_k».proof.Proof.Results

@[expose] public section

set_option maxRecDepth 16384

noncomputable section

namespace Cert.Rasterize

open Idealize.ShloMosaic Idealize.ShloMosaic.TcCoe Idealize.SL.Sem Cert.KernelIdeal Cert.KernelIdeal.Gen

variable (m : (ℓ : Loc nD τ sig) → Buf (Elt Ideal) ℓ) (c : Dev nD)

/-- The image of a grid point. -/
def img (t : Fin cfg0.N) : Fin 4 := ⟨t.val / 2, by have := lt_of_lt_of_eq t.isLt N_0; omega⟩

/-- The tile of a grid point. -/
def til (t : Fin cfg0.N) : Fin 2 := ⟨t.val % 2, by omega⟩

/-- The vertices' positions as the program is given them. -/
abbrev verts : Verts := (m ((c.tc : Thread nD τ).loc main_arg0) : S4x1152x3.Idx → EReal)

/-- Where the block of operand 0 lies, at every point. -/
theorem idx0 : ∀ t : Fin cfg0.N, win0_0.index t 0 = t.val / 2 ∧ win0_0.index t 1 = 0 ∧ win0_0.index t 2 = 0 :=
  (by decide +kernel : ∀ t : Fin grid0.N, _)
/-- Where the block of operand 1 lies, at every point. -/
theorem idx1 : ∀ t : Fin cfg0.N, win0_1.index t 0 = t.val / 2 ∧ win0_1.index t 1 = 0 ∧ win0_1.index t 2 = 0 :=
  (by decide +kernel : ∀ t : Fin grid0.N, _)
/-- Where the block of operand 2 lies, at every point. -/
theorem idx2 : ∀ t : Fin cfg0.N, win0_2.index t 0 = 0 ∧ win0_2.index t 1 = t.val % 2 :=
  (by decide +kernel : ∀ t : Fin grid0.N, _)
/-- Where the block of operand 3 lies, at every point. -/
theorem idx3 : ∀ t : Fin cfg0.N, win0_3.index t 0 = 0 ∧ win0_3.index t 1 = t.val % 2 :=
  (by decide +kernel : ∀ t : Fin grid0.N, _)
/-- Where the block of operand 4 lies, at every point. -/
theorem idx4 : ∀ t : Fin cfg0.N, win0_4.index t 0 = 0 ∧ win0_4.index t 1 = 0 :=
  (by decide +kernel : ∀ t : Fin grid0.N, _)
/-- Where the block of operand 5 lies, at every point. -/
theorem idx5 : ∀ t : Fin cfg0.N, win0_5.index t 0 = 0 ∧ win0_5.index t 1 = 0 :=
  (by decide +kernel : ∀ t : Fin grid0.N, _)

/-- The block of horizontal vertex coordinates is the image's. -/
theorem blk0 (t : Fin cfg0.N) (p : Fin 1152) : (iblk m c 0 t : S1x1152x1.Idx → EReal) (ix3 0 p 0) = (V m c main_v9 : S4x1152x1.Idx → EReal) (ix3 (img t) p 0) := by
  obtain ⟨e0, e1, e2⟩ := idx0 t
  show (V m c main_v9 : S4x1152x1.Idx → EReal) (((cfg0.win 0).blk t).view.emb (ix3 0 p 0)) = _
  congr 1
  funext a
  apply Fin.ext
  match a with
  | ⟨0, _⟩ => show win0_0.index t 0 * 1 + 1 * 0 = t.val / 2; omega
  | ⟨1, _⟩ => show win0_0.index t 1 * 1152 + 1 * p.val = p.val; omega
  | ⟨2, _⟩ => show win0_0.index t 2 * 1 + 1 * 0 = 0; omega

/-- The block of vertical vertex coordinates is the image's. -/
theorem blk1 (t : Fin cfg0.N) (p : Fin 1152) : (iblk m c 1 t : S1x1152x1.Idx → EReal) (ix3 0 p 0) = (V m c main_v13 : S4x1152x1.Idx → EReal) (ix3 (img t) p 0) := by
  obtain ⟨e0, e1, e2⟩ := idx1 t
  show (V m c main_v13 : S4x1152x1.Idx → EReal) (((cfg0.win 1).blk t).view.emb (ix3 0 p 0)) = _
  congr 1
  funext a
  apply Fin.ext
  match a with
  | ⟨0, _⟩ => show win0_1.index t 0 * 1 + 1 * 0 = t.val / 2; omega
  | ⟨1, _⟩ => show win0_1.index t 1 * 1152 + 1 * p.val = p.val; omega
  | ⟨2, _⟩ => show win0_1.index t 2 * 1 + 1 * 0 = 0; omega

/-- The block of horizontal pixel coordinates is the tile's. -/
theorem blk2 (t : Fin cfg0.N) (q : Fin 2048) : (iblk m c 2 t : S1x2048.Idx → EReal) (ix2 0 q) = (V m c main_v18 : S1x4096.Idx → EReal) (ix2 0 ⟨2048 * (til t).val + q.val, by omega⟩) := by
  obtain ⟨e0, e1⟩ := idx2 t
  show (V m c main_v18 : S1x4096.Idx → EReal) (((cfg0.win 2).blk t).view.emb (ix2 0 q)) = _
  congr 1
  funext a
  apply Fin.ext
  match a with
  | ⟨0, _⟩ => show win0_2.index t 0 * 1 + 1 * 0 = 0; omega
  | ⟨1, _⟩ => show win0_2.index t 1 * 2048 + 1 * q.val = 2048 * (t.val % 2) + q.val; omega

/-- The block of vertical pixel coordinates is the tile's. -/
theorem blk3 (t : Fin cfg0.N) (q : Fin 2048) : (iblk m c 3 t : S1x2048.Idx → EReal) (ix2 0 q) = (V m c main_v19 : S1x4096.Idx → EReal) (ix2 0 ⟨2048 * (til t).val + q.val, by omega⟩) := by
  obtain ⟨e0, e1⟩ := idx3 t
  show (V m c main_v19 : S1x4096.Idx → EReal) (((cfg0.win 3).blk t).view.emb (ix2 0 q)) = _
  congr 1
  funext a
  apply Fin.ext
  match a with
  | ⟨0, _⟩ => show win0_3.index t 0 * 1 + 1 * 0 = 0; omega
  | ⟨1, _⟩ => show win0_3.index t 1 * 2048 + 1 * q.val = 2048 * (t.val % 2) + q.val; omega

/-- The block of the attribute matrix is the whole of it. -/
theorem blk4 (t : Fin cfg0.N) (k : Fin 89) (p : Fin 1152) : (iblk m c 4 t : S89x1152.Idx → EReal) (ix2 k p) = (V m c main_v24 : S89x1152.Idx → EReal) (ix2 k p) := by
  obtain ⟨e0, e1⟩ := idx4 t
  show (V m c main_v24 : S89x1152.Idx → EReal) (((cfg0.win 4).blk t).view.emb (ix2 k p)) = _
  congr 1
  funext a
  apply Fin.ext
  match a with
  | ⟨0, _⟩ => show win0_4.index t 0 * 89 + 1 * k.val = k.val; omega
  | ⟨1, _⟩ => show win0_4.index t 1 * 1152 + 1 * p.val = p.val; omega

/-- The block of the column replication is the whole of it. -/
theorem blk5 (t : Fin cfg0.N) (k : Fin 64) (p : Fin 224) : (iblk m c 5 t : S64x224.Idx → EReal) (ix2 k p) = (V m c main_cst : S64x224.Idx → EReal) (ix2 k p) := by
  obtain ⟨e0, e1⟩ := idx5 t
  show (V m c main_cst : S64x224.Idx → EReal) (((cfg0.win 5).blk t).view.emb (ix2 k p)) = _
  congr 1
  funext a
  apply Fin.ext
  match a with
  | ⟨0, _⟩ => show win0_5.index t 0 * 64 + 1 * k.val = k.val; omega
  | ⟨1, _⟩ => show win0_5.index t 1 * 224 + 1 * p.val = p.val; omega

/-- The weights of the block at the column of a pixel. -/
theorem block_weight (t : Fin cfg0.N) (y : Fin 32) (x : Fin 64) (p : Fin 1152) :
    k0_pay6 (iblk m c 0 t) (iblk m c 1 t) (iblk m c 2 t) (iblk m c 3 t) (ix2 p ⟨64 * y.val + x.val, by omega⟩)
      = wAt (verts m c) (img t) ⟨32 * (til t).val + y.val, by omega⟩ x p := by
  have e : (⟨2048 * (til t).val + (64 * y.val + x.val), by omega⟩ : Fin 4096)
      = ⟨64 * (⟨32 * (til t).val + y.val, by omega⟩ : Fin 64).val + x.val, by dsimp only; omega⟩ :=
    Fin.ext (by dsimp only; omega)
  rw [pay6_apply, blk0 m c t, blk1 m c t, blk2 m c t, blk3 m c t, e, entry_gx, entry_gy, entry_px, entry_py]
  rfl

/-- What the tile holds at the replication of its row `j`: the row at the column that the resized one shows. -/
theorem rowAt_rep (t : Fin cfg0.N) (pr : S90x2048.Idx → EReal) (k : Fin 90) (j : ℕ) (hj : j < 32) (x : Fin 224) :
    rowAt pr (iblk m c 5 t) k j x = pr (ix2 k ⟨64 * j + (src x).val, by omega⟩) := by
  unfold rowAt
  rw [dif_pos hj, Finset.sum_eq_single (src x)]
  · rw [blk5 m c t, entry_rep, if_pos (show (src x).val = (64 * x.val + 32) / 224 from rfl), mul_one]
  · intro b _ hb
    rw [blk5 m c t, entry_rep, if_neg (show ¬ b.val = (64 * x.val + 32) / 224 from fun h => hb (Fin.ext h)), mul_zero]
  · intro h
    exact absurd (Finset.mem_univ _) h

/-- Resized row `r` of a tile shows row `src` of the image. -/
theorem src_row (t : Fin cfg0.N) (r : Fin 112) :
    (⟨32 * (til t).val + (64 * r.val + 32) / 224, by omega⟩ : Fin 64) = src ⟨112 * (til t).val + r.val, by omega⟩ :=
  Fin.ext (by
    show 32 * (til t).val + (64 * r.val + 32) / 224 = (64 * (112 * (til t).val + r.val) + 32) / 224
    have := (til t).isLt
    omega)

section Rows

variable (t : Fin cfg0.N)

/-- The rows that the block of point `t` computes. -/
abbrev rowsOf : FVec Ideal S90x2048 .f32 :=
  blockRows (iblk m c 0 t) (iblk m c 1 t) (iblk m c 2 t) (iblk m c 3 t) (iblk m c 4 t)

/-- The rows that a tile writes, at an entry. -/
theorem tileAt_eq (k : Fin 90) (r : Fin 112) (x : Fin 224) :
    tileAt (rowsOf m c t) (iblk m c 5 t) k r x
      = rowsOf m c t (ix2 k ⟨64 * ((64 * r.val + 32) / 224) + (src x).val, by omega⟩) := by
  unfold tileAt
  exact rowAt_rep m c t _ k _ (by omega) x

variable (y : Fin 32) (x : Fin 64)

/-- The weights that a point computes from its blocks are the weights of its image and pixels. -/
theorem block_weights : (fun p : Fin 1152 => k0_pay6 (iblk m c 0 t) (iblk m c 1 t) (iblk m c 2 t) (iblk m c 3 t)
      (ix2 p ⟨64 * y.val + x.val, by omega⟩)) = wAt (verts m c) (img t) ⟨32 * (til t).val + y.val, by omega⟩ x :=
  funext fun p => block_weight m c t y x p

/-- The part scores of a pixel. -/
theorem rows_part (k : Fin 12) : rowsOf m c t (ix2 ⟨k.val, by omega⟩ ⟨64 * y.val + x.val, by omega⟩)
    = attrAt (verts m c) (m ((c.tc : Thread nD τ).loc main_arg3) : S1152x12.Idx → EReal) (img t)
        ⟨32 * (til t).val + y.val, by omega⟩ x k := by
  rw [rowsOf, blockRows, pay12_part _ _ _ _ _ (pay10_apply ..), block_weights]
  exact congrArg (interp _) (funext fun p => (blk4 m c t _ p).trans (attr_part m c k p))

/-- The orientation scores of a pixel. -/
theorem rows_orient (k : Fin 12) : rowsOf m c t (ix2 ⟨12 + k.val, by omega⟩ ⟨64 * y.val + x.val, by omega⟩)
    = soft (attrAt (verts m c) (m ((c.tc : Thread nD τ).loc main_arg2) : S1152x12.Idx → EReal) (img t)
        ⟨32 * (til t).val + y.val, by omega⟩ x) k := by
  rw [rowsOf, blockRows, pay12_orient _ _ _ _ _ (pay10_apply ..), block_weights]
  refine congrFun (congrArg soft (funext fun k => ?_)) k
  exact congrArg (interp _) (funext fun p => (blk4 m c t _ p).trans (attr_orient m c k p))

/-- The features of a pixel. -/
theorem rows_feature (k : Fin 64) : rowsOf m c t (ix2 ⟨24 + k.val, by omega⟩ ⟨64 * y.val + x.val, by omega⟩)
    = normed (attrAt (verts m c) (m ((c.tc : Thread nD τ).loc main_arg4) : S1152x64.Idx → EReal) (img t)
        ⟨32 * (til t).val + y.val, by omega⟩ x) k := by
  rw [rowsOf, blockRows, pay12_feature _ _ _ _ _ (pay10_apply ..), block_weights]
  refine congrFun (congrArg normed (funext fun k => ?_)) k
  exact congrArg (interp _) (funext fun p => (blk4 m c t _ p).trans (attr_feature m c k p))

/-- The silhouette at a pixel. -/
theorem rows_sum : rowsOf m c t (ix2 88 ⟨64 * y.val + x.val, by omega⟩)
    = coverAt (verts m c) (img t) ⟨32 * (til t).val + y.val, by omega⟩ x := by
  rw [rowsOf, blockRows, pay12_sum _ _ _ _ _ (pay10_apply ..), block_weights]
  exact congrArg (fun f => clip01 (interp _ f)) (funext fun p => (blk4 m c t _ p).trans (attr_one m c p))

/-- The mask at a pixel. -/
theorem rows_mask : rowsOf m c t (ix2 89 ⟨64 * y.val + x.val, by omega⟩)
    = maskAt (verts m c) (img t) ⟨32 * (til t).val + y.val, by omega⟩ x := by
  rw [rowsOf, blockRows, pay12_mask, pay7_apply, block_weights]
  rfl

end Rows

/-- The first grid point, a first tile. -/
theorem first_point : cond0_0 (grid0.coords (⟨0, by decide⟩ : Fin cfg0.N)) ∧ ¬cond0_1 (grid0.coords (⟨0, by decide⟩ : Fin cfg0.N)) :=
  ⟨(hcond0_0 _).mpr rfl, fun h => absurd ((hcond0_1 _).mp h) (by decide)⟩

/-- What the body leaves in output 6, at either tile of an image. -/
theorem outs6 (t : Fin cfg0.N) : (outsAt0 m c t.val t.isLt).1 = tile6 (rowsOf m c t) (iblk m c 5 t) := by
  rcases Nat.mod_two_eq_zero_or_one t.val with h | h
  · refine (congrArg (fun o => o.1) (outsAt0_A m c t h (by omega))).trans ?_
    dsimp only
    rw [first_6]
  · refine (congrArg (fun o => o.1) (outsAt0_B m c t (by omega) h)).trans ?_
    dsimp only
    rw [second_6 (i' := grid0.coords (⟨0, by decide⟩ : Fin cfg0.N)) (hc0' := first_point.1) (hc1' := first_point.2), first_6]

/-- What the body leaves in output 7, at either tile of an image. -/
theorem outs7 (t : Fin cfg0.N) : (outsAt0 m c t.val t.isLt).2.1 = tile7 (rowsOf m c t) (iblk m c 5 t) := by
  rcases Nat.mod_two_eq_zero_or_one t.val with h | h
  · refine (congrArg (fun o => o.2.1) (outsAt0_A m c t h (by omega))).trans ?_
    dsimp only
    rw [first_7]
  · refine (congrArg (fun o => o.2.1) (outsAt0_B m c t (by omega) h)).trans ?_
    dsimp only
    rw [second_7 (i' := grid0.coords (⟨0, by decide⟩ : Fin cfg0.N)) (hc0' := first_point.1) (hc1' := first_point.2), first_7]

/-- What the body leaves in output 8, at either tile of an image. -/
theorem outs8 (t : Fin cfg0.N) : (outsAt0 m c t.val t.isLt).2.2.1 = tile8 (rowsOf m c t) (iblk m c 5 t) := by
  rcases Nat.mod_two_eq_zero_or_one t.val with h | h
  · refine (congrArg (fun o => o.2.2.1) (outsAt0_A m c t h (by omega))).trans ?_
    dsimp only
    rw [first_8]
  · refine (congrArg (fun o => o.2.2.1) (outsAt0_B m c t (by omega) h)).trans ?_
    dsimp only
    rw [second_8 (i' := grid0.coords (⟨0, by decide⟩ : Fin cfg0.N)) (hc0' := first_point.1) (hc1' := first_point.2), first_8]

/-- What the body leaves in output 9, at either tile of an image. -/
theorem outs9 (t : Fin cfg0.N) : (outsAt0 m c t.val t.isLt).2.2.2.1 = tile9 (rowsOf m c t) (iblk m c 5 t) := by
  rcases Nat.mod_two_eq_zero_or_one t.val with h | h
  · refine (congrArg (fun o => o.2.2.2.1) (outsAt0_A m c t h (by omega))).trans ?_
    dsimp only
    rw [first_9]
  · refine (congrArg (fun o => o.2.2.2.1) (outsAt0_B m c t (by omega) h)).trans ?_
    dsimp only
    rw [second_9 (i' := grid0.coords (⟨0, by decide⟩ : Fin cfg0.N)) (hc0' := first_point.1) (hc1' := first_point.2), first_9]

/-- What the body leaves in output 10, at either tile of an image. -/
theorem outs10 (t : Fin cfg0.N) : (outsAt0 m c t.val t.isLt).2.2.2.2.1 = k0_pay13 (k0_pay6 (iblk m c 0 t) (iblk m c 1 t) (iblk m c 2 t) (iblk m c 3 t)) (k0_pay7 (iblk m c 0 t) (iblk m c 1 t) (iblk m c 2 t) (iblk m c 3 t))
        (k0_pay10 (k0_pay6 (iblk m c 0 t) (iblk m c 1 t) (iblk m c 2 t) (iblk m c 3 t)) (k0_pay8 (iblk m c 0 t) (iblk m c 1 t) (iblk m c 2 t) (iblk m c 3 t)) k0_pay9) (iblk m c 4 t) := by
  rcases Nat.mod_two_eq_zero_or_one t.val with h | h
  · refine (congrArg (fun o => o.2.2.2.2.1) (outsAt0_A m c t h (by omega))).trans ?_
    dsimp only
    rw [first_10]
  · refine (congrArg (fun o => o.2.2.2.2.1) (outsAt0_B m c t (by omega) h)).trans ?_
    dsimp only
    rw [second_10 (i' := grid0.coords (⟨0, by decide⟩ : Fin cfg0.N)) (hc0' := first_point.1) (hc1' := first_point.2), first_10]

end Cert.Rasterize

end
-- ==== Proof.KernelArrays.lean ====
/- What the kernel's output arrays hold after the run, from the arguments. -/
module

public import proofs.«01_k».proof.Proof.KernelPoints

@[expose] public section

set_option maxRecDepth 16384

noncomputable section

namespace Cert.Rasterize

open Idealize.ShloMosaic Idealize.ShloMosaic.TcCoe Idealize.SL.Sem Cert.KernelIdeal Cert.KernelIdeal.Gen

variable (m : (ℓ : Loc nD τ sig) → Buf (Elt Ideal) ℓ) (c : Dev nD)

/-- The grid point of an image and a tile. -/
def point (n : Fin 4) (b : ℕ) (hb : b < 2) : Fin cfg0.N := ⟨2 * n.val + b, lt_of_lt_of_eq (by omega : 2 * n.val + b < 8) N_0.symm⟩

/-- A tile's entry is the row's entry at the pixel that it shows. -/
theorem tile_entry (t : Fin cfg0.N) (k : Fin 90) (r : Fin 112) (x : Fin 224) (f : Fin 4 → Fin 64 → Fin 64 → EReal)
    (h : ∀ (y : Fin 32) (x : Fin 64), rowsOf m c t (ix2 k ⟨64 * y.val + x.val, by omega⟩) = f (img t) ⟨32 * (til t).val + y.val, by omega⟩ x) :
    tileAt (rowsOf m c t) (iblk m c 5 t) k r x = f (img t) (src ⟨112 * (til t).val + r.val, by omega⟩) (src x) := by
  rw [tileAt_eq, ← src_row t r]
  exact h ⟨(64 * r.val + 32) / 224, by omega⟩ (src x)

/-- The place of entry `j` of the block of point `t` in an array of half images: from the block's place along each axis. -/
theorem emb_halves {K : ℕ} (t : Fin cfg0.N) (j : (⟨4, ![1, K, 112, 224]⟩ : Shape).Idx) (i : (⟨4, ![4, K, 224, 224]⟩ : Shape).Idx) (at_ : Fin 4 → ℕ)
    (e : at_ 0 = t.val / 2 ∧ at_ 1 = 0 ∧ at_ 2 = t.val % 2 ∧ at_ 3 = 0) (h0 : (i 0).val = at_ 0 * 1 + 1 * (j 0).val) (h1 : (i 1).val = at_ 1 * K + 1 * (j 1).val)
    (h2 : (i 2).val = at_ 2 * 112 + 1 * (j 2).val) (h3 : (i 3).val = at_ 3 * 224 + 1 * (j 3).val) :
    i = ix4 (img t) (j 1 : Fin K) ⟨112 * (til t).val + (j 2).val, by have : (j 2).val < 112 := (j 2).isLt; omega⟩ (j 3 : Fin 224) := by
  obtain ⟨e0, e1, e2, e3⟩ := e
  rw [e1, Nat.zero_mul] at h1
  funext a
  apply Fin.ext
  match a with
  | ⟨0, _⟩ => show (i 0).val = t.val / 2; have : (j 0).val < 1 := (j 0).isLt; omega
  | ⟨1, _⟩ => show (i 1).val = (j 1).val; omega
  | ⟨2, _⟩ => show (i 2).val = 112 * (t.val % 2) + (j 2).val; omega
  | ⟨3, _⟩ => show (i 3).val = (j 3).val; omega

/-- Every entry of an array of half images is an entry of the block of one point. -/
theorem whole_halves {K : ℕ} (i : (⟨4, ![4, K, 224, 224]⟩ : Shape).Idx) : ∃ (t : Fin cfg0.N) (j : (⟨4, ![1, K, 112, 224]⟩ : Shape).Idx),
    ix4 (img t) (j 1 : Fin K) ⟨112 * (til t).val + (j 2).val, by have : (j 2).val < 112 := (j 2).isLt; omega⟩ (j 3 : Fin 224) = i := by
  have h2 : (i 2).val < 224 := (i 2).isLt
  have hb : ((i 2).val / 112) < 2 := by omega
  refine ⟨point (i 0) ((i 2).val / 112) hb, ix4 0 (i 1 : Fin K) ⟨(i 2).val % 112, by omega⟩ (i 3 : Fin 224), ?_⟩
  funext a
  apply Fin.ext
  match a with
  | ⟨0, _⟩ => show (2 * (i 0).val + (i 2).val / 112) / 2 = (i 0).val; omega
  | ⟨1, _⟩ => rfl
  | ⟨2, _⟩ => show 112 * ((2 * (i 0).val + (i 2).val / 112) % 2) + (i 2).val % 112 = (i 2).val; omega
  | ⟨3, _⟩ => rfl

/-- Where the block of array 6 lies, at every point. -/
theorem idx6 : ∀ t : Fin cfg0.N, win0_6.index t 0 = t.val / 2 ∧ win0_6.index t 1 = 0 ∧ win0_6.index t 2 = t.val % 2 ∧ win0_6.index t 3 = 0 :=
  (by decide +kernel : ∀ t : Fin grid0.N, _)

/-- The array of the part scores. -/
def array6 : S4x12x224x224.Idx → EReal := fun i => attrAt (verts m c) (m ((c.tc : Thread nD τ).loc main_arg3) : S1152x12.Idx → EReal) (i 0) (src (i 2)) (src (i 3)) (i 1)

/-- Where the block of point `t` lies in the array. -/
theorem emb6 (t : Fin cfg0.N) (j : S1x12x112x224.Idx) :
    ((cfg0.win 6).blk t).view.emb j = (ix4 (img t) (j 1 : Fin 12) ⟨112 * (til t).val + (j 2).val, by have : (j 2).val < 112 := (j 2).isLt; omega⟩ (j 3 : Fin 224) : S4x12x224x224.Idx) :=
  emb_halves t j _ (win0_6.index t) (idx6 t) rfl rfl rfl rfl

/-- What a point writes to array 6 is its block of the array's final contents. -/
theorem flushed6 (t : Fin cfg0.N) : (dats m 0 c).flushed 6 t = ((cfg0.win 6).blk t).view.read (Elt Ideal) (array6 m c) := by
  show (cfg0.win 6).cut (grid0.coords t) ((dats m 0 c).after 6 t) = _
  rw [after0_6, outs6]
  funext j
  show tile6 (rowsOf m c t) (iblk m c 5 t) j = array6 m c (((cfg0.win 6).blk t).view.emb j)
  rw [emb6]
  exact tile_entry m c t _ _ _ (fun n y x => attrAt (verts m c) (m ((c.tc : Thread nD τ).loc main_arg3) : S1152x12.Idx → EReal) n y x (j 1)) fun y x => rows_part m c t y x (j 1)

/-- Every entry of the array lies in the block of one point. -/
theorem cover6 (i : S4x12x224x224.Idx) : ∃ t : Fin cfg0.N, (cfg0.win 6).flush t = true ∧ i ∈ ((cfg0.win 6).blk t).view.set := by
  obtain ⟨t, j, e⟩ := whole_halves i
  have h := ((cfg0.win 6).blk t).view.emb_mem_set j
  rw [(emb6 t j).trans e] at h
  exact ⟨t, flush0_6 t, h⟩

/-- After the run the array holds the part scores. -/
theorem final6 : (dats m 0 c).arrAt 6 cfg0.N = array6 m c :=
  (dats m 0 c).arrAt_eq_of_cover 6 (array6 m c) (fun t _ => flushed6 m c t) cover6

/-- Where the block of array 7 lies, at every point. -/
theorem idx7 : ∀ t : Fin cfg0.N, win0_7.index t 0 = t.val / 2 ∧ win0_7.index t 1 = 0 ∧ win0_7.index t 2 = t.val % 2 ∧ win0_7.index t 3 = 0 :=
  (by decide +kernel : ∀ t : Fin grid0.N, _)

/-- The array of the orientation scores. -/
def array7 : S4x12x224x224.Idx → EReal := fun i => soft (attrAt (verts m c) (m ((c.tc : Thread nD τ).loc main_arg2) : S1152x12.Idx → EReal) (i 0) (src (i 2)) (src (i 3))) (i 1)

/-- Where the block of point `t` lies in the array. -/
theorem emb7 (t : Fin cfg0.N) (j : S1x12x112x224.Idx) :
    ((cfg0.win 7).blk t).view.emb j = (ix4 (img t) (j 1 : Fin 12) ⟨112 * (til t).val + (j 2).val, by have : (j 2).val < 112 := (j 2).isLt; omega⟩ (j 3 : Fin 224) : S4x12x224x224.Idx) :=
  emb_halves t j _ (win0_7.index t) (idx7 t) rfl rfl rfl rfl

/-- What a point writes to array 7 is its block of the array's final contents. -/
theorem flushed7 (t : Fin cfg0.N) : (dats m 0 c).flushed 7 t = ((cfg0.win 7).blk t).view.read (Elt Ideal) (array7 m c) := by
  show (cfg0.win 7).cut (grid0.coords t) ((dats m 0 c).after 7 t) = _
  rw [after0_7, outs7]
  funext j
  show tile7 (rowsOf m c t) (iblk m c 5 t) j = array7 m c (((cfg0.win 7).blk t).view.emb j)
  rw [emb7]
  exact tile_entry m c t _ _ _ (fun n y x => soft (attrAt (verts m c) (m ((c.tc : Thread nD τ).loc main_arg2) : S1152x12.Idx → EReal) n y x) (j 1)) fun y x => rows_orient m c t y x (j 1)

/-- Every entry of the array lies in the block of one point. -/
theorem cover7 (i : S4x12x224x224.Idx) : ∃ t : Fin cfg0.N, (cfg0.win 7).flush t = true ∧ i ∈ ((cfg0.win 7).blk t).view.set := by
  obtain ⟨t, j, e⟩ := whole_halves i
  have h := ((cfg0.win 7).blk t).view.emb_mem_set j
  rw [(emb7 t j).trans e] at h
  exact ⟨t, flush0_7 t, h⟩

/-- After the run the array holds the orientation scores. -/
theorem final7 : (dats m 0 c).arrAt 7 cfg0.N = array7 m c :=
  (dats m 0 c).arrAt_eq_of_cover 7 (array7 m c) (fun t _ => flushed7 m c t) cover7

/-- Where the block of array 8 lies, at every point. -/
theorem idx8 : ∀ t : Fin cfg0.N, win0_8.index t 0 = t.val / 2 ∧ win0_8.index t 1 = 0 ∧ win0_8.index t 2 = t.val % 2 ∧ win0_8.index t 3 = 0 :=
  (by decide +kernel : ∀ t : Fin grid0.N, _)

/-- The array of the features. -/
def array8 : S4x64x224x224.Idx → EReal := fun i => normed (attrAt (verts m c) (m ((c.tc : Thread nD τ).loc main_arg4) : S1152x64.Idx → EReal) (i 0) (src (i 2)) (src (i 3))) (i 1)

/-- Where the block of point `t` lies in the array. -/
theorem emb8 (t : Fin cfg0.N) (j : S1x64x112x224.Idx) :
    ((cfg0.win 8).blk t).view.emb j = (ix4 (img t) (j 1 : Fin 64) ⟨112 * (til t).val + (j 2).val, by have : (j 2).val < 112 := (j 2).isLt; omega⟩ (j 3 : Fin 224) : S4x64x224x224.Idx) :=
  emb_halves t j _ (win0_8.index t) (idx8 t) rfl rfl rfl rfl

/-- What a point writes to array 8 is its block of the array's final contents. -/
theorem flushed8 (t : Fin cfg0.N) : (dats m 0 c).flushed 8 t = ((cfg0.win 8).blk t).view.read (Elt Ideal) (array8 m c) := by
  show (cfg0.win 8).cut (grid0.coords t) ((dats m 0 c).after 8 t) = _
  rw [after0_8, outs8]
  funext j
  show tile8 (rowsOf m c t) (iblk m c 5 t) j = array8 m c (((cfg0.win 8).blk t).view.emb j)
  rw [emb8]
  exact tile_entry m c t _ _ _ (fun n y x => normed (attrAt (verts m c) (m ((c.tc : Thread nD τ).loc main_arg4) : S1152x64.Idx → EReal) n y x) (j 1)) fun y x => rows_feature m c t y x (j 1)

/-- Every entry of the array lies in the block of one point. -/
theorem cover8 (i : S4x64x224x224.Idx) : ∃ t : Fin cfg0.N, (cfg0.win 8).flush t = true ∧ i ∈ ((cfg0.win 8).blk t).view.set := by
  obtain ⟨t, j, e⟩ := whole_halves i
  have h := ((cfg0.win 8).blk t).view.emb_mem_set j
  rw [(emb8 t j).trans e] at h
  exact ⟨t, flush0_8 t, h⟩

/-- After the run the array holds the features. -/
theorem final8 : (dats m 0 c).arrAt 8 cfg0.N = array8 m c :=
  (dats m 0 c).arrAt_eq_of_cover 8 (array8 m c) (fun t _ => flushed8 m c t) cover8

/-- Where the block of array 9 lies, at every point. -/
theorem idx9 : ∀ t : Fin cfg0.N, win0_9.index t 0 = t.val / 2 ∧ win0_9.index t 1 = t.val % 2 ∧ win0_9.index t 2 = 0 :=
  (by decide +kernel : ∀ t : Fin grid0.N, _)

/-- The array of the mask. -/
def array9 : S4x224x224.Idx → EReal := fun i => maskAt (verts m c) (i 0) (src (i 1)) (src (i 2))

/-- Where the block of point `t` lies in the array. -/
theorem emb9 (t : Fin cfg0.N) (j : S1x112x224.Idx) :
    ((cfg0.win 9).blk t).view.emb j = (ix3 (img t) ⟨112 * (til t).val + (j 1).val, by have : (j 1).val < 112 := (j 1).isLt; omega⟩ (j 2 : Fin 224) : S4x224x224.Idx) := by
  obtain ⟨e0, e1, e2⟩ := idx9 t
  funext a
  apply Fin.ext
  match a with
  | ⟨0, _⟩ => show win0_9.index t 0 * 1 + 1 * (j 0).val = t.val / 2; have : (j 0).val < 1 := (j 0).isLt; omega
  | ⟨1, _⟩ => show win0_9.index t 1 * 112 + 1 * (j 1).val = 112 * (t.val % 2) + (j 1).val; omega
  | ⟨2, _⟩ => show win0_9.index t 2 * 224 + 1 * (j 2).val = (j 2).val; omega

/-- What a point writes to array 9 is its block of the array's final contents. -/
theorem flushed9 (t : Fin cfg0.N) : (dats m 0 c).flushed 9 t = ((cfg0.win 9).blk t).view.read (Elt Ideal) (array9 m c) := by
  show (cfg0.win 9).cut (grid0.coords t) ((dats m 0 c).after 9 t) = _
  rw [after0_9, outs9]
  funext j
  show tile9 (rowsOf m c t) (iblk m c 5 t) j = array9 m c (((cfg0.win 9).blk t).view.emb j)
  rw [emb9]
  exact tile_entry m c t _ _ _ (fun n y x => maskAt (verts m c) n y x) fun y x => rows_mask m c t y x

/-- Every entry of the array lies in the block of one point. -/
theorem cover9 (i : S4x224x224.Idx) : ∃ t : Fin cfg0.N, (cfg0.win 9).flush t = true ∧ i ∈ ((cfg0.win 9).blk t).view.set := by
  have h2 : (i 1).val < 224 := (i 1).isLt
  have hb : ((i 1).val / 112) < 2 := by omega
  refine ⟨point (i 0) ((i 1).val / 112) hb, flush0_9 _, ?_⟩
  have h := ((cfg0.win 9).blk (point (i 0) ((i 1).val / 112) hb)).view.emb_mem_set (ix3 0 ⟨(i 1).val % 112, by omega⟩ (i 2 : Fin 224) : S1x112x224.Idx)
  have e : ((cfg0.win 9).blk (point (i 0) ((i 1).val / 112) hb)).view.emb (ix3 0 ⟨(i 1).val % 112, by omega⟩ (i 2 : Fin 224) : S1x112x224.Idx) = i := by
    rw [emb9]
    funext a
    apply Fin.ext
    match a with
    | ⟨0, _⟩ => show (2 * (i 0).val + (i 1).val / 112) / 2 = (i 0).val; omega
    | ⟨1, _⟩ => show 112 * ((2 * (i 0).val + (i 1).val / 112) % 2) + (i 1).val % 112 = (i 1).val; omega
    | ⟨2, _⟩ => rfl
  rw [e] at h
  exact h

/-- After the run the array holds the mask. -/
theorem final9 : (dats m 0 c).arrAt 9 cfg0.N = array9 m c :=
  (dats m 0 c).arrAt_eq_of_cover 9 (array9 m c) (fun t _ => flushed9 m c t) cover9

/-- Where the block of array 10 lies, at every point. -/
theorem idx10 : ∀ t : Fin cfg0.N, win0_10.index t 0 = t.val / 2 ∧ win0_10.index t 1 = 0 ∧ win0_10.index t 2 = t.val % 2 :=
  (by decide +kernel : ∀ t : Fin grid0.N, _)

/-- The array of the silhouettes, a row of pixels for each image. -/
def array10 : S4x1x4096.Idx → EReal := fun i =>
  coverAt (verts m c) (i 0) ⟨(i 2).val / 64, by have : (i 2).val < 4096 := (i 2).isLt; omega⟩ ⟨(i 2).val % 64, by omega⟩

/-- Where the block of point `t` lies in the array. -/
theorem emb10 (t : Fin cfg0.N) (j : S1x1x2048.Idx) :
    ((cfg0.win 10).blk t).view.emb j = (ix3 (img t) 0 ⟨2048 * (til t).val + (j 2).val, by have : (j 2).val < 2048 := (j 2).isLt; omega⟩ : S4x1x4096.Idx) := by
  obtain ⟨e0, e1, e2⟩ := idx10 t
  funext a
  apply Fin.ext
  match a with
  | ⟨0, _⟩ => show win0_10.index t 0 * 1 + 1 * (j 0).val = t.val / 2; have : (j 0).val < 1 := (j 0).isLt; omega
  | ⟨1, _⟩ => show win0_10.index t 1 * 1 + 1 * (j 1).val = 0; have : (j 1).val < 1 := (j 1).isLt; omega
  | ⟨2, _⟩ => show win0_10.index t 2 * 2048 + 1 * (j 2).val = 2048 * (t.val % 2) + (j 2).val; omega

/-- The silhouette row of a block. -/
theorem pay13_apply (w : FVec Ideal S1152x2048 .f32) (m1 m : FVec Ideal S1x2048 .f32) (x : Vec Ideal S89x1152 .f32) (q : Fin 2048) :
    k0_pay13 w m1 m x (ix3 0 0 q) = k0_pay12 w m1 m x (ix2 88 q) := by
  unfold k0_pay13
  generalize k0_pay12 w m1 m x = u
  pointwise

/-- What a point writes to array 10 is its block of the array's final contents. -/
theorem flushed10 (t : Fin cfg0.N) : (dats m 0 c).flushed 10 t = ((cfg0.win 10).blk t).view.read (Elt Ideal) (array10 m c) := by
  show (cfg0.win 10).cut (grid0.coords t) ((dats m 0 c).after 10 t) = _
  rw [after0_10, outs10]
  funext j
  show k0_pay13 (F := Ideal) _ _ _ _ (j : S1x1x2048.Idx) = array10 m c (((cfg0.win 10).blk t).view.emb j)
  rw [emb10]
  have hj : (j : S1x1x2048.Idx) = ix3 0 0 (j 2 : Fin 2048) := funext fun a => Fin.ext (by
    match a with
    | ⟨0, _⟩ => show (j 0).val = 0; have : (j 0).val < 1 := (j 0).isLt; omega
    | ⟨1, _⟩ => show (j 1).val = 0; have : (j 1).val < 1 := (j 1).isLt; omega
    | ⟨2, _⟩ => rfl)
  have hq : (j 2).val < 2048 := (j 2).isLt
  have e := rows_sum m c t ⟨(j 2).val / 64, by omega⟩ ⟨(j 2).val % 64, by omega⟩
  refine (congrArg _ hj).trans ((pay13_apply ..).trans (Eq.trans ?_ (e.trans ?_)))
  · exact congrArg (fun q => rowsOf m c t (ix2 88 q)) (Fin.ext (by show (j 2).val = 64 * ((j 2).val / 64) + (j 2).val % 64; omega))
  · exact congr (congrArg (coverAt (verts m c) (img t)) (Fin.ext (by
      show 32 * (t.val % 2) + (j 2).val / 64 = (2048 * (t.val % 2) + (j 2).val) / 64; omega)))
      (Fin.ext (by show (j 2).val % 64 = (2048 * (t.val % 2) + (j 2).val) % 64; omega))

/-- Every entry of the array lies in the block of one point. -/
theorem cover10 (i : S4x1x4096.Idx) : ∃ t : Fin cfg0.N, (cfg0.win 10).flush t = true ∧ i ∈ ((cfg0.win 10).blk t).view.set := by
  have h2 : (i 2).val < 4096 := (i 2).isLt
  have hb : ((i 2).val / 2048) < 2 := by omega
  refine ⟨point (i 0) ((i 2).val / 2048) hb, flush0_10 _, ?_⟩
  have h := ((cfg0.win 10).blk (point (i 0) ((i 2).val / 2048) hb)).view.emb_mem_set (ix3 0 0 ⟨(i 2).val % 2048, by omega⟩ : S1x1x2048.Idx)
  have e : ((cfg0.win 10).blk (point (i 0) ((i 2).val / 2048) hb)).view.emb (ix3 0 0 ⟨(i 2).val % 2048, by omega⟩ : S1x1x2048.Idx) = i := by
    rw [emb10]
    funext a
    apply Fin.ext
    match a with
    | ⟨0, _⟩ => show (2 * (i 0).val + (i 2).val / 2048) / 2 = (i 0).val; omega
    | ⟨1, _⟩ => show 0 = (i 1).val; have : (i 1).val < 1 := (i 1).isLt; omega
    | ⟨2, _⟩ => show 2048 * ((2 * (i 0).val + (i 2).val / 2048) % 2) + (i 2).val % 2048 = (i 2).val; omega
  rw [e] at h
  exact h

/-- After the run the array holds the silhouettes. -/
theorem final10 : (dats m 0 c).arrAt 10 cfg0.N = array10 m c :=
  (dats m 0 c).arrAt_eq_of_cover 10 (array10 m c) (fun t _ => flushed10 m c t) cover10

/-- Where the block of array 11 lies, at every point. -/
theorem idx11 : ∀ t : Fin cfg0.N, win0_11.index t 0 = t.val / 2 ∧ win0_11.index t 1 = 0 ∧ win0_11.index t 2 = 0 :=
  (by decide +kernel : ∀ t : Fin grid0.N, _)

/-- The array of the greatest weight that each vertex counts with. -/
def array11 : S4x1152x1.Idx → EReal := fun i => max (seenIn (verts m c) (i 0) 0 (i 1)) (seenIn (verts m c) (i 0) 1 (i 1))

/-- Where the block of point `t` lies in the array. -/
theorem emb11 (t : Fin cfg0.N) (j : S1x1152x1.Idx) :
    ((cfg0.win 11).blk t).view.emb j = (ix3 (img t) (j 1 : Fin 1152) 0 : S4x1152x1.Idx) := by
  obtain ⟨e0, e1, e2⟩ := idx11 t
  funext a
  apply Fin.ext
  match a with
  | ⟨0, _⟩ => show win0_11.index t 0 * 1 + 1 * (j 0).val = t.val / 2; have : (j 0).val < 1 := (j 0).isLt; omega
  | ⟨1, _⟩ => show win0_11.index t 1 * 1152 + 1 * (j 1).val = (j 1).val; omega
  | ⟨2, _⟩ => show win0_11.index t 2 * 1 + 1 * (j 2).val = 0; have : (j 2).val < 1 := (j 2).isLt; omega

/-- The weights that the vertices count with in the block of point `t`. -/
def selOf (t : Fin cfg0.N) : FVec Ideal S1152x2048 .f32 :=
  k0_pay11 (k0_pay6 (iblk m c 0 t) (iblk m c 1 t) (iblk m c 2 t) (iblk m c 3 t))
    (k0_pay10 (k0_pay6 (iblk m c 0 t) (iblk m c 1 t) (iblk m c 2 t) (iblk m c 3 t))
      (k0_pay8 (iblk m c 0 t) (iblk m c 1 t) (iblk m c 2 t) (iblk m c 3 t)) k0_pay9)

/-- The weights that count, at an entry. -/
theorem selOf_apply (t : Fin cfg0.N) (p : Fin 1152) (q : Fin 2048) :
    selOf m c t (ix2 p q) = sel (wAt (verts m c) (img t) ⟨32 * (til t).val + q.val / 64, by omega⟩ ⟨q.val % 64, by omega⟩) p := by
  have e : q = ⟨64 * (⟨q.val / 64, by omega⟩ : Fin 32).val + (⟨q.val % 64, by omega⟩ : Fin 64).val, by dsimp only; omega⟩ :=
    Fin.ext (by dsimp only; omega)
  have h := block_weights m c t ⟨q.val / 64, by omega⟩ ⟨q.val % 64, by omega⟩
  rw [← e] at h
  rw [selOf, pay11_apply, pay10_apply, h, congrFun h p]
  rfl

/-- The first point's running maximum, at an entry. -/
theorem pay4_apply (s : FVec Ideal S1152x2048 .f32) (p : Fin 1152) :
    k0_pay4 s (ix3 0 p 0) = Finset.univ.fold max ⊥ fun q : Fin 2048 => s (ix2 p q) := by
  rw [← ofBits_negInf]
  pointwise [k0_pay4, k0_pay3]

/-- A later point's running maximum, at an entry. -/
theorem pay5_apply (s : FVec Ideal S1152x2048 .f32) (x : Vec Ideal S1x1152x1 .f32) (p : Fin 1152) :
    k0_pay5 s x (ix3 0 p 0) = max (x (ix3 0 p 0)) (Finset.univ.fold max ⊥ fun q : Fin 2048 => s (ix2 p q)) := by
  rw [← ofBits_negInf]
  pointwise [k0_pay5, k0_pay3]

/-- What the first tile of an image leaves in output 11. -/
theorem outs11_first (t : Fin cfg0.N) (h : t.val % 2 = 0) : (outsAt0 m c t.val t.isLt).2.2.2.2.2 = k0_pay4 (selOf m c t) := by
  refine (congrArg (fun o => o.2.2.2.2.2) (outsAt0_A m c t h (by omega))).trans ?_
  dsimp only
  rw [first_11]
  rfl

/-- What the second tile leaves there: the greater of that and its own. -/
theorem outs11_second (t t' : Fin cfg0.N) (h : t.val % 2 = 1) (ht : t'.val = t.val - 1) :
    (outsAt0 m c t.val t.isLt).2.2.2.2.2 = k0_pay5 (selOf m c t) (k0_pay4 (selOf m c t')) := by
  have e : (outsAt0 m c (t.val - 1) (Nat.lt_of_le_of_lt (Nat.sub_le _ _) t.isLt)).2.2.2.2.2 = k0_pay4 (selOf m c t') := by
    rw [← outs11_first m c t' (by omega)]
    simp only [ht]
  refine (congrArg (fun o => o.2.2.2.2.2) (outsAt0_B m c t (by omega) h)).trans ?_
  dsimp only
  rw [second_11, e]
  rfl

/-- What an image's last point writes to array 11 is its block of the array's final contents. -/
theorem flushed11 (t : Fin cfg0.N) (hf : (cfg0.win 11).flush t = true) :
    (dats m 0 c).flushed 11 t = ((cfg0.win 11).blk t).view.read (Elt Ideal) (array11 m c) := by
  have ht : t.val % 2 = 1 := (flush0_11 t).mp hf
  have hN : t.val < 8 := lt_of_lt_of_eq t.isLt N_0
  show (cfg0.win 11).cut (grid0.coords t) ((dats m 0 c).after 11 t) = _
  rw [after0_11, outs11_second m c t ⟨t.val - 1, by have := t.isLt; omega⟩ ht rfl]
  funext j
  show k0_pay5 (F := Ideal) _ _ (j : S1x1152x1.Idx) = array11 m c (((cfg0.win 11).blk t).view.emb j)
  rw [emb11]
  obtain ⟨p, hp⟩ : ∃ p : Fin 1152, p = (j 1 : Fin 1152) := ⟨_, rfl⟩
  rw [← hp]
  have hj : (j : S1x1152x1.Idx) = ix3 0 p 0 := funext fun a => Fin.ext (by
    match a with
    | ⟨0, _⟩ => show (j 0).val = 0; have : (j 0).val < 1 := (j 0).isLt; omega
    | ⟨1, _⟩ => rw [hp]; rfl
    | ⟨2, _⟩ => show (j 2).val = 0; have : (j 2).val < 1 := (j 2).isLt; omega)
  refine (congrArg _ hj).trans ((pay5_apply ..).trans ?_)
  rw [pay4_apply]
  simp only [selOf_apply]
  have i0 : img ⟨t.val - 1, by have := t.isLt; omega⟩ = img t := Fin.ext (by show (t.val - 1) / 2 = t.val / 2; omega)
  have t0 : til ⟨t.val - 1, by have := t.isLt; omega⟩ = 0 := Fin.ext (by show (t.val - 1) % 2 = 0; omega)
  have t1 : til t = 1 := Fin.ext ht
  rw [i0]
  simp only [t0, t1]
  rfl

/-- Every entry of the array lies in the block that the second tile writes back. -/
theorem cover11 (i : S4x1152x1.Idx) : ∃ t : Fin cfg0.N, (cfg0.win 11).flush t = true ∧ i ∈ ((cfg0.win 11).blk t).view.set := by
  have hb : 1 < 2 := by omega
  refine ⟨point (i 0) 1 hb, (flush0_11 _).mpr (by show (2 * (i 0).val + 1) % 2 = 1; omega), ?_⟩
  have h := ((cfg0.win 11).blk (point (i 0) 1 hb)).view.emb_mem_set (ix3 0 (i 1 : Fin 1152) 0 : S1x1152x1.Idx)
  have e : ((cfg0.win 11).blk (point (i 0) 1 hb)).view.emb (ix3 0 (i 1 : Fin 1152) 0 : S1x1152x1.Idx) = i := by
    rw [emb11]
    funext a
    apply Fin.ext
    match a with
    | ⟨0, _⟩ => show (2 * (i 0).val + 1) / 2 = (i 0).val; omega
    | ⟨1, _⟩ => rfl
    | ⟨2, _⟩ => show 0 = (i 2).val; have : (i 2).val < 1 := (i 2).isLt; omega
  rw [e] at h
  exact h

/-- After the run the array holds the greatest weights. -/
theorem final11 : (dats m 0 c).arrAt 11 cfg0.N = array11 m c :=
  (dats m 0 c).arrAt_eq_of_cover 11 (array11 m c) (fun t hf => flushed11 m c t hf) cover11

end Cert.Rasterize

end
-- ==== Proof.KernelRun.lean ====
/- What the kernel leaves in its six results, and its arguments unchanged. -/
module

public import proofs.«01_k».proof.Proof.KernelArrays

@[expose] public section

set_option maxRecDepth 16384

noncomputable section

namespace Cert.Rasterize

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The contents that the region leaves. -/
abbrev exitV : Valuation τ sig (Elt Ideal) := Pipeline.withArrays (cfgs 0).spec c (V0 m c) fun w => (dats m 0 c).arrAt w (cfgs 0).N

/-- The region leaves the silhouettes in array 10. -/
theorem exit10 : (exitV m c (Proc.devRef .tc main_v25_4) : S4x1x4096.Idx → EReal) = array10 m c :=
  (Pipeline.withArrays_arr spec0 (by decide) c (V0 m c) (fun w => (dats m 0 c).arrAt w (cfgs 0).N) 10).trans (final10 m c)

/-- The region leaves the greatest weights in array 11. -/
theorem exit11 : (exitV m c (Proc.devRef .tc main_v25_5) : S4x1152x1.Idx → EReal) = array11 m c :=
  (Pipeline.withArrays_arr spec0 (by decide) c (V0 m c) (fun w => (dats m 0 c).arrAt w (cfgs 0).N) 11).trans (final11 m c)

/-- The silhouettes, reshaped. -/
def cover (v : Verts) : S4x64x64.Idx → EReal := fun i => coverAt v (i 0) (i 1) (i 2)

/-- The visibilities. -/
def seen (v : Verts) : S4x1152.Idx → BitVec 32 := fun i => visAt v (i 0) (i 1)

/-- The host's reshape after the region gives the silhouettes. -/
theorem tail_cover : (Pipeline.afterTail₀ cfgs (dats m) 0 (V0 m) [hostOps1] c main_v26 : S4x64x64.Idx → EReal) = cover (verts m c) := by
  have e := exit10 m c
  unfold Pipeline.afterTail₀
  unfold exitV at e
  generalize Pipeline.withArrays (cfgs 0).spec c (V0 m c) (fun w => (dats m 0 c).arrAt w (cfgs 0).N) = W at *
  simp only [hostOps1, List.flatten_cons, List.flatten_nil, List.append_nil, StableHlo.TRef.binary, StableHlo.TRef.nullary,
    StableHlo.TRef.reshape, StableHlo.TRef.unary, StableHlo.TRef.toBuf, StableHlo.TRef.ofBuf, cast_eq]
  after_results
  rw [e]
  funext j
  idx_vars j
  pointwise [array10]
  exact congr (congrArg (coverAt (verts m c) j0) (Fin.ext (by show (j1.val * 64 + j2.val) / 64 = j1.val; omega)))
    (Fin.ext (by show (j1.val * 64 + j2.val) % 64 = j2.val; omega))

/-- The host's comparison after the region gives the visibilities. -/
theorem tail_seen : (Pipeline.afterTail₀ cfgs (dats m) 0 (V0 m) [hostOps1] c main_v30 : S4x1152.Idx → BitVec 32) = seen (verts m c) := by
  have e := exit11 m c
  unfold Pipeline.afterTail₀
  unfold exitV at e
  generalize Pipeline.withArrays (cfgs 0).spec c (V0 m c) (fun w => (dats m 0 c).arrAt w (cfgs 0).N) = W at *
  simp only [hostOps1, List.flatten_cons, List.flatten_nil, List.append_nil, StableHlo.TRef.binary, StableHlo.TRef.nullary,
    StableHlo.TRef.reshape, StableHlo.TRef.unary, StableHlo.TRef.toBuf, StableHlo.TRef.ofBuf, cast_eq]
  after_results
  rw [e]
  funext j
  idx_vars j
  pointwise [array11]
  show _ = if 0 < max (seenIn (verts m c) j0 0 j1) (seenIn (verts m c) j0 1 j1) then 1 else 0
  split
  · rw [decide_eq_true ‹_›]; rfl
  · rw [decide_eq_false ‹_›]; rfl

/-- The kernel ends with the six results at these functions of its arguments, and the arguments unchanged. -/
theorem kernel_run : θ_run defs (onTc (τ := τ) (main (F := Ideal))) ⟨m, fun _ => 0, ρ⟩ fun r => ∀ c : Dev nD,
      r.2.mem ((c.tc : Thread nD τ).loc main_v25_3) = array9 m c
      ∧ r.2.mem ((c.tc : Thread nD τ).loc main_v26) = cover (verts m c)
      ∧ r.2.mem ((c.tc : Thread nD τ).loc main_v25_0) = array6 m c
      ∧ r.2.mem ((c.tc : Thread nD τ).loc main_v25_2) = array8 m c
      ∧ r.2.mem ((c.tc : Thread nD τ).loc main_v30) = seen (verts m c)
      ∧ r.2.mem ((c.tc : Thread nD τ).loc main_v25_1) = array7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have rest : ∀ b ∈ [main_v26, main_v30, main_arg0, main_arg1, main_arg2, main_arg3, main_arg4], b ∈ Pipeline.restRefs sig spec0 := by decide
  refine (θ_run defs _ _).mono (fun r h c => ?_) (run_main m ρ)
  have a := (h c).1
  have b : ∀ b ∈ [main_v26, main_v30, main_arg0, main_arg1, main_arg2, main_arg3, main_arg4], _ := fun b hb => (h c).2 b (rest b hb)
  exact ⟨(a 9).trans (final9 m c), (b main_v26 (by simp)).trans (tail_cover m c), (a 6).trans (final6 m c), (a 8).trans (final8 m c),
    (b main_v30 (by simp)).trans (tail_seen m c), (a 7).trans (final7 m c), (b main_arg0 (by simp)).trans (W_main_arg0 m (dats m) c),
    (b main_arg1 (by simp)).trans (W_main_arg1 m (dats m) c), (b main_arg2 (by simp)).trans (W_main_arg2 m (dats m) c),
    (b main_arg3 (by simp)).trans (W_main_arg3 m (dats m) c), (b main_arg4 (by simp)).trans (W_main_arg4 m (dats m) c)⟩

end Cert.Rasterize

end
-- ==== Proof.TopK.lean ====
/- The greatest entries along the last axis: `top_k` read at an entry, and the order that it lists. -/
module

public import Idealize.ShloMosaic.Lib.Pointwise
public import Idealize.ShloMosaic.Lib.SortFacts

@[expose] public section

noncomputable section

namespace Cert.Rasterize

open Idealize.ShloMosaic

/-- The order of a fiber by falling value: entry `k` is the position of the `k`-th greatest. -/
def order {P : ℕ} (w : Fin P → EReal) (k : Fin P) : Fin P :=
  sortedFrom (fun i j => Ideal.cmp .ogt (w i) (w j) == 1#1) k

/-- The order lists no position twice. -/
theorem order_injective {P : ℕ} (w : Fin P → EReal) : Function.Injective (order w) := sortedFrom_injective _

/-- The order lists every position. -/
theorem order_surjective {P : ℕ} (w : Fin P → EReal) : Function.Surjective (order w) := sortedFrom_surjective _

/-- The comparison's word is one where the first is greater. -/
theorem cmp_ogt_one (a b : EReal) : (Ideal.cmp .ogt a b == 1#1) = decide (b < a) := by
  unfold Ideal.cmp
  by_cases h : b < a <;> simp [h]

/-- The values fall along the order. -/
theorem order_anti {P : ℕ} (w : Fin P → EReal) (i j : Fin P) (h : i ≤ j) : w (order w j) ≤ w (order w i) := by
  rcases eq_or_lt_of_le h with rfl | h
  · exact le_rfl
  · have := sortedFrom_noInversion (fun i j => Ideal.cmp .ogt (w i) (w j) == 1#1)
      (fun i j => Ideal.cmp .ogt (w i) (w j) == 1#1)
      (by simp only [cmp_ogt_one]; intro a b h; simp at h ⊢; exact h.le) (fun _ _ h => h)
      (by simp only [cmp_ogt_one]; intro a b c h1 h2; simp at h1 h2 ⊢; exact h1.trans h2) i j h
    rw [cmp_ogt_one] at this
    simpa [order] using this

/-- Replacing the last coordinate of an index of rank four. -/
theorem along_ix4 {a b c d : ℕ} (i : Fin a) (j : Fin b) (k : Fin c) (l l' : Fin d) :
    Shape.Idx.along (s := ⟨4, ![a, b, c, d]⟩) (ix4 i j k l) (3 : Fin 4) l' = ix4 i j k l' := by
  funext x
  unfold Shape.Idx.along
  fin_cases x <;> simp [Function.update] <;> rfl

/-- The values of `top_k`: the operand at the listed position. -/
theorem topK_value {a b c P K : ℕ} (x : (⟨4, ![a, b, c, P]⟩ : Shape).Idx → EReal)
    (h : (⟨4, ![a, b, c, P]⟩ : Shape).Slices (fun _ => 0) ⟨4, ![a, b, c, K]⟩) (hK : K ≤ P)
    (i : Fin a) (j : Fin b) (k : Fin c) (l : Fin K) :
    (Host.topK ⟨4, ![a, b, c, K]⟩ 3 (FloatOps.cmpfTotal (F := Ideal) (φ := .f32) .gt) x h).1 (ix4 i j k l)
      = x (ix4 i j k (order (fun p => x (ix4 i j k p)) ⟨l.val, by omega⟩)) := by
  have e : ((⟨4, ![a, b, c, P]⟩ : Shape).Idx → EReal) = FVec Ideal ⟨4, ![a, b, c, P]⟩ .f32 := rfl
  unfold Host.topK Host.sort2
  simp only [show (3 : ℕ) < (⟨4, ![a, b, c, P]⟩ : Shape).rank from (by decide : 3 < 4), dif_pos]
  have hs : ∀ f : (⟨4, ![a, b, c, P]⟩ : Shape).Idx → EReal,
      extractStridedSlice ⟨4, ![a, b, c, K]⟩ (fun _ => 0) f h (ix4 i j k l) = f (ix4 i j k ⟨l.val, by omega⟩) := by
    intro f
    unfold extractStridedSlice
    congr 1
    funext z
    fin_cases z <;> simp [ix4] <;> rfl
  rw [hs]
  have hl : l.val < P := by omega
  let A (p : Fin P) : (⟨4, ![a, b, c, P]⟩ : Shape).Idx :=
    Shape.Idx.along (s := ⟨4, ![a, b, c, P]⟩) (ix4 i j k (⟨l.val, hl⟩ : Fin P)) (3 : Fin 4) p
  have hA : A = fun p => ix4 i j k p := funext fun p => along_ix4 i j k _ p
  show x (A (sortedFrom (fun p q => Ideal.cmp .ogt (x (A p)) (x (A q)) == 1#1) ⟨l.val, hl⟩)) = _
  rw [hA]
  rfl

/-- The positions of `top_k`: the listed position, as a word. -/
theorem topK_index {a b c P K : ℕ} (x : (⟨4, ![a, b, c, P]⟩ : Shape).Idx → EReal)
    (h : (⟨4, ![a, b, c, P]⟩ : Shape).Slices (fun _ => 0) ⟨4, ![a, b, c, K]⟩) (hK : K ≤ P)
    (i : Fin a) (j : Fin b) (k : Fin c) (l : Fin K) :
    (Host.topK ⟨4, ![a, b, c, K]⟩ 3 (FloatOps.cmpfTotal (F := Ideal) (φ := .f32) .gt) x h).2 (ix4 i j k l)
      = BitVec.ofNat 32 (order (fun p => x (ix4 i j k p)) ⟨l.val, by omega⟩).val := by
  unfold Host.topK Host.sort2
  simp only [show (3 : ℕ) < (⟨4, ![a, b, c, P]⟩ : Shape).rank from (by decide : 3 < 4), dif_pos]
  have hs : ∀ f : (⟨4, ![a, b, c, P]⟩ : Shape).Idx → BitVec 32,
      extractStridedSlice ⟨4, ![a, b, c, K]⟩ (fun _ => 0) f h (ix4 i j k l) = f (ix4 i j k ⟨l.val, by omega⟩) := by
    intro f
    unfold extractStridedSlice
    congr 1
    funext z
    fin_cases z <;> simp [ix4] <;> rfl
  rw [hs]
  have hl : l.val < P := by omega
  let A (p : Fin P) : (⟨4, ![a, b, c, P]⟩ : Shape).Idx :=
    Shape.Idx.along (s := ⟨4, ![a, b, c, P]⟩) (ix4 i j k (⟨l.val, hl⟩ : Fin P)) (3 : Fin 4) p
  have hA : A = fun p => ix4 i j k p := funext fun p => along_ix4 i j k _ p
  show iotaInDim ⟨4, ![a, b, c, P]⟩ 32 3 (A (sortedFrom (fun p q => Ideal.cmp .ogt (x (A p)) (x (A q)) == 1#1) ⟨l.val, hl⟩)) = _
  rw [hA]
  rfl

end Cert.Rasterize

end
-- ==== Proof.RefWeights.lean ====
/- The reference's weights at an entry, and the choice of the ten greatest of them. -/
module

public import proofs.«01_k».proof.Proof.Gen.ReferenceIdeal.Run
public import proofs.«01_k».proof.Proof.Results
public import proofs.«01_k».proof.Proof.TopK
public import Idealize.ShloMosaic.Lib.Pointwise
public import Idealize.ShloMosaic.Lib.Claim

@[expose] public section

set_option maxRecDepth 16384

noncomputable section

namespace Cert.Rasterize

open Idealize.ShloMosaic Idealize.ShloMosaic.TcCoe Idealize.SL.Sem Cert.ReferenceIdeal Cert.ReferenceIdeal.Value

variable (V0 : Valuation τ sig (Elt Ideal))

/-- The vertices' positions. -/
abbrev vertsOf : Verts := (V0 (Proc.devRef .tc main_arg0) : S4x1152x3.Idx → EReal)

/-- The horizontal distance of a pixel from a projected vertex. -/
theorem ref_dx (n : Fin 4) (y x : Fin 64) (p : Fin 1152) : (res_main_v20 V0 : S4x64x64x1152.Idx → EReal) (ix4 n y x p)
    = gridAt x - proj (vertsOf V0 (ix3 n p 0)) (vertsOf V0 (ix3 n p 2)) := by
  unfold gridAt proj vertsOf
  unfold res_main_v20 res_main_v5 res_main_call0_v0 res_main_call0_v1 res_main_call0_v6
  simp only [id_eq]
  pointwise
  split <;> rfl

/-- The vertical distance. -/
theorem ref_dy (n : Fin 4) (y x : Fin 64) (p : Fin 1152) : (res_main_v26 V0 : S4x64x64x1152.Idx → EReal) (ix4 n y x p)
    = gridAt y - proj (vertsOf V0 (ix3 n p 1)) (vertsOf V0 (ix3 n p 2)) := by
  unfold gridAt proj vertsOf
  unfold res_main_v26 res_main_v5 res_main_call1_v0 res_main_call1_v1 res_main_call1_v6
  simp only [id_eq]
  pointwise
  split <;> rfl

/-- The reference's weights are the weights. -/
theorem ref_weight (n : Fin 4) (y x : Fin 64) (p : Fin 1152) : (res_main_v31 V0 : S4x64x64x1152.Idx → EReal) (ix4 n y x p)
    = wAt (vertsOf V0) n y x p := by
  have hx := ref_dx V0 n y x p
  have hy := ref_dy V0 n y x p
  unfold res_main_v31
  generalize res_main_v20 V0 = a at *
  generalize res_main_v26 V0 = b at *
  unfold wAt weight dist2
  rw [← hx, ← hy, ← ofBits_neg150]
  pointwise

end Cert.Rasterize

end
-- ==== Proof.Words.lean ====
/- The vertex numbers as words: of all images, within an image, and with a slot for no vertex. -/
module

public import Idealize.ShloMosaic.Lib.Pointwise
public import Idealize.ShloMosaic.Lib.Claim

@[expose] public section

noncomputable section

namespace Cert.Rasterize

open Idealize.ShloMosaic

/-- The remainder by 1152 with the sign of the divisor, zero for a negative word. -/
def localWord (z : BitVec 32) : BitVec 32 :=
  Scalar.select (IntOp.cmpi CmpIPredicate.slt z 0#32) 0#32
    (Scalar.select
      (IntOp.andi
        (IntOp.cmpi CmpIPredicate.ne
          (IntOp.cmpi CmpIPredicate.slt (IntOp.remsi ArithUnit.host z (Scalar.select (IntOp.cmpi CmpIPredicate.eq 1152#32 0#32) 1#32 1152#32)) 0#32)
          (IntOp.cmpi CmpIPredicate.slt (Scalar.select (IntOp.cmpi CmpIPredicate.eq 1152#32 0#32) 1#32 1152#32) 0#32))
        (IntOp.cmpi CmpIPredicate.ne (IntOp.remsi ArithUnit.host z (Scalar.select (IntOp.cmpi CmpIPredicate.eq 1152#32 0#32) 1#32 1152#32)) 0#32))
      (IntOp.addi (IntOp.remsi ArithUnit.host z (Scalar.select (IntOp.cmpi CmpIPredicate.eq 1152#32 0#32) 1#32 1152#32))
        (Scalar.select (IntOp.cmpi CmpIPredicate.eq 1152#32 0#32) 1#32 1152#32))
      (IntOp.remsi ArithUnit.host z (Scalar.select (IntOp.cmpi CmpIPredicate.eq 1152#32 0#32) 1#32 1152#32)))

/-- The word of vertex `p` of image `n`: within the image it is `p`. -/
theorem localWord_vertex : ∀ (n : Fin 4) (p : Fin 1152), localWord (BitVec.ofNat 32 (p.val + 1152 * n.val)) = BitVec.ofNat 32 p.val := by
  decide +kernel

/-- Minus one, for no vertex, counts as the first. -/
theorem localWord_none : localWord 4294967295#32 = 0#32 := by decide +kernel

/-- The word of all images from the image's own. -/
theorem globalWord : ∀ (n : Fin 4) (p : Fin 1152),
    IntOp.addi (BitVec.ofNat 32 p.val) (IntOp.muli (BitVec.ofNat 32 n.val) 1152#32) = BitVec.ofNat 32 (p.val + 1152 * n.val) := by
  decide +kernel

/-- It is not negative. -/
theorem globalWord_nonneg : ∀ (n : Fin 4) (p : Fin 1152), IntOp.cmpi CmpIPredicate.sge (BitVec.ofNat 32 (p.val + 1152 * n.val)) 0#32 = 1#1 := by
  decide +kernel

/-- And it is not minus one. -/
theorem globalWord_ne : ∀ (n : Fin 4) (p : Fin 1152), IntOp.cmpi CmpIPredicate.ne (BitVec.ofNat 32 (p.val + 1152 * n.val)) 4294967295#32 = 1#1 := by
  decide +kernel

/-- The word of the place that a slot marks: cut to an image's vertices and one before, plus one. -/
def placeWord (n : Fin 4) (z : BitVec 32) : BitVec 32 :=
  IntOp.addi (IntOp.minsi 1151#32 (IntOp.maxsi 4294967295#32 (IntOp.subi z (IntOp.muli (BitVec.ofNat 32 n.val) 1152#32)))) 1#32

/-- A vertex marks the place after its number. -/
theorem placeWord_vertex : ∀ (n : Fin 4) (p : Fin 1152), placeWord n (BitVec.ofNat 32 (p.val + 1152 * n.val)) = BitVec.ofNat 32 (p.val + 1) := by
  decide +kernel

/-- No vertex marks the first place. -/
theorem placeWord_none : ∀ n : Fin 4, placeWord n 4294967295#32 = 0#32 := by decide +kernel

end Cert.Rasterize

end
-- ==== Proof.RefChoice.lean ====
/- The reference's ten slots of each pixel: the vertex of a slot, and the weight that it counts with. -/
module

public import proofs.«01_k».proof.Proof.RefWeights
public import proofs.«01_k».proof.Proof.Words

@[expose] public section

set_option maxRecDepth 16384

noncomputable section

namespace Cert.Rasterize

open Idealize.ShloMosaic Idealize.ShloMosaic.TcCoe Idealize.SL.Sem Cert.ReferenceIdeal Cert.ReferenceIdeal.Gen Cert.ReferenceIdeal.Value

variable (V0 : Valuation τ sig (Elt Ideal))

/-- The vertex in slot `l` of a pixel: by falling weight. -/
def slot (v : Verts) (n : Fin 4) (y x : Fin 64) (l : Fin 10) : Fin 1152 := order (wAt v n y x) ⟨l.val, by omega⟩

/-- Whether a slot passes the threshold. -/
def passes (v : Verts) (n : Fin 4) (y x : Fin 64) (l : Fin 10) : Prop := thr < wAt v n y x (slot v n y x l)

/-- Whether a slot's weight passes is decided by the order of the extended reals. -/
instance (v : Verts) (n : Fin 4) (y x : Fin 64) (l : Fin 10) : Decidable (passes v n y x l) :=
  inferInstanceAs (Decidable (thr < wAt v n y x (slot v n y x l)))

/-- A pixel's weights, as one function of the vertex. -/
theorem ref_weights (n : Fin 4) (y x : Fin 64) : (fun p => (res_main_v31 V0 : S4x64x64x1152.Idx → EReal) (ix4 n y x p)) = wAt (vertsOf V0) n y x :=
  funext fun p => ref_weight V0 n y x p

/-- The greatest weights in order. -/
theorem ref_values (n : Fin 4) (y x : Fin 64) (l : Fin 10) : (res_main_values V0 : S4x64x64x10.Idx → EReal) (ix4 n y x l)
    = wAt (vertsOf V0) n y x (slot (vertsOf V0) n y x l) := by
  refine (topK_value (res_main_v31 V0) _ (by decide) n y x l).trans ?_
  rw [ref_weight, ref_weights]
  rfl

/-- The vertices that have them. -/
theorem ref_vertices (n : Fin 4) (y x : Fin 64) (l : Fin 10) :
    ((Host.topK S4x64x64x10 3 (FloatOps.cmpfTotal .gt) (res_main_v31 V0) sliceFits_S4x64x64x1152_S4x64x64x10).2 : S4x64x64x10.Idx → BitVec 32) (ix4 n y x l)
    = BitVec.ofNat 32 (slot (vertsOf V0) n y x l).val := by
  refine (topK_index (res_main_v31 V0) _ (by decide) n y x l).trans ?_
  rw [ref_weights]
  rfl

/-- A slot's vertex of all images: the image's first vertex and the vertex's own number, or minus one. -/
theorem ref_v40 (n : Fin 4) (y x : Fin 64) (l : Fin 10) : (res_main_v40 V0 : S4x64x64x10.Idx → BitVec 32) (ix4 n y x l)
    = if passes (vertsOf V0) n y x l then BitVec.ofNat 32 ((slot (vertsOf V0) n y x l).val + 1152 * n.val) else 4294967295#32 := by
  have e1 := ref_values V0 n y x l
  have e2 := ref_vertices V0 n y x l
  unfold res_main_v40
  generalize (Host.topK S4x64x64x10 3 (FloatOps.cmpfTotal .gt) (res_main_v31 V0) sliceFits_S4x64x64x1152_S4x64x64x10).2 = u at *
  generalize res_main_values V0 = z at *
  simp only [id_eq]
  pointwise
  rw [e1, e2, ofBits_thr]
  rw [globalWord]
  rfl

/-- The weight in a slot, zero where it does not pass. -/
theorem ref_v43 (n : Fin 4) (y x : Fin 64) (l : Fin 10) : (res_main_v43 V0 : S4x64x64x10.Idx → EReal) (ix4 n y x l)
    = if passes (vertsOf V0) n y x l then wAt (vertsOf V0) n y x (slot (vertsOf V0) n y x l) else 0 := by
  have e1 := ref_values V0 n y x l
  unfold res_main_v43
  generalize res_main_values V0 = z at *
  simp only [id_eq]
  pointwise
  rw [e1, ofBits_thr]
  rfl

/-- The vertex of a slot within its image, the first one where the slot does not pass. -/
theorem ref_v85 (n : Fin 4) (y x : Fin 64) (l : Fin 10) : (res_main_v85 V0 : S4x64x64x10.Idx → BitVec 32) (ix4 n y x l)
    = if passes (vertsOf V0) n y x l then BitVec.ofNat 32 (slot (vertsOf V0) n y x l).val else 0#32 := by
  have e1 := ref_v40 V0 n y x l
  unfold res_main_v85 res_main_call7_v4 res_main_call7_v2 res_main_call7_v0
  generalize res_main_v40 V0 = z at *
  simp only [id_eq]
  pointwise
  rw [e1]
  show localWord _ = _
  split
  · exact localWord_vertex n _
  · exact localWord_none

/-- A true bit as a number is one. -/
theorem uitofp_one : FloatOps.uitofp (F := Ideal) .f32 (1#1) = (1 : EReal) := by
  show (((1#1).toNat : ℝ) : EReal) = 1
  simp

/-- A false bit is zero. -/
theorem uitofp_zero : FloatOps.uitofp (F := Ideal) .f32 (0#1) = (0 : EReal) := by
  show (((0#1).toNat : ℝ) : EReal) = 0
  simp

/-- The weight that a slot counts with. -/
theorem ref_v89 (n : Fin 4) (y x : Fin 64) (l : Fin 10) : (res_main_v89 V0 : S4x64x64x10.Idx → EReal) (ix4 n y x l)
    = if passes (vertsOf V0) n y x l then wAt (vertsOf V0) n y x (slot (vertsOf V0) n y x l) else 0 := by
  have e1 := ref_v40 V0 n y x l
  have e2 := ref_v43 V0 n y x l
  unfold res_main_v89
  generalize res_main_v40 V0 = z at *
  generalize res_main_v43 V0 = z' at *
  pointwise
  rw [e1, e2]
  split
  · rw [globalWord_nonneg, show FloatOps.uitofp (F := Ideal) .f32 (1#1) = (1 : EReal) from uitofp_one, mul_one]
  · rw [zero_mul]

end Cert.Rasterize

end
-- ==== Proof.Gathers.lean ====
/- The reference's gathers, read at an index: rows of an attribute, and rows and columns of a rendered image. -/
module

public import Idealize.ShloMosaic.Lib.Pointwise
public import Idealize.ShloMosaic.Lib.Claim

@[expose] public section

noncomputable section

namespace Cert.Rasterize

open Idealize.ShloMosaic

variable {α : Type}

/-- A word below a bound, read with a sign and cut to the bound, is itself. -/
theorem cut_word (r b : ℕ) (h : r ≤ b) (hb : b < 2 ^ 31) : min (BitVec.ofNat 32 r).toInt.toNat b = r := by
  rw [BitVec.toInt_eq_toNat_of_lt (by rw [BitVec.toNat_ofNat]; omega), BitVec.toNat_ofNat, Int.toNat_natCast]
  omega

/-- Rows of a matrix, one for each entry of a rank-four array. -/
theorem gather_rows {K : ℕ} (wf : GatherDims.WF ⟨2, ![1152, K]⟩ ⟨5, ![4, 64, 64, 10, 1]⟩ ⟨5, ![4, 64, 64, 10, K]⟩ [4] [0] [] [0] [] 4 ![1, K])
    (x : (⟨2, ![1152, K]⟩ : Shape).Idx → α) (idx : IVec ⟨5, ![4, 64, 64, 10, 1]⟩ 32) (n : Fin 4) (y z : Fin 64) (l : Fin 10) (k : Fin K)
    (r : Fin 1152) (h : idx (ix5 n y z l 0) = BitVec.ofNat 32 r.val) :
    Host.gather (⟨[4], [0], [], [], [0], 4, ![1, K], wf⟩ : GatherDims ⟨2, ![1152, K]⟩ ⟨5, ![4, 64, 64, 10, 1]⟩ ⟨5, ![4, 64, 64, 10, K]⟩) x idx
      (ix5 n y z l k) = x (ix2 r k) := by
  unfold Host.gather
  congr 1
  funext a
  refine Fin.ext ?_
  match a with
  | ⟨0, _⟩ =>
    refine Eq.trans ?_ (cut_word r.val 1151 (by omega) (by omega))
    rw [← h]
    refine congrArg (fun i => min (idx i).toInt.toNat 1151) (funext fun b => Fin.ext ?_)
    match b with
    | ⟨0, _⟩ => rfl
    | ⟨1, _⟩ => rfl
    | ⟨2, _⟩ => rfl
    | ⟨3, _⟩ => rfl
    | ⟨4, _⟩ => rfl
  | ⟨1, _⟩ => show 0 + 0 + k.val = k.val; omega

/-- Rows of each image of a stack. -/
theorem gather_axis2 {K : ℕ} (wf : GatherDims.WF ⟨4, ![4, K, 64, 64]⟩ ⟨2, ![224, 1]⟩ ⟨4, ![4, K, 224, 64]⟩ [0, 1, 3] [2] [] [2] [] 1 ![4, K, 1, 64])
    (x : (⟨4, ![4, K, 64, 64]⟩ : Shape).Idx → α) (idx : IVec ⟨2, ![224, 1]⟩ 32) (n : Fin 4) (k : Fin K) (y : Fin 224) (z : Fin 64)
    (r : Fin 64) (h : idx (ix2 y 0) = BitVec.ofNat 32 r.val) :
    Host.gather (⟨[0, 1, 3], [2], [], [], [2], 1, ![4, K, 1, 64], wf⟩ : GatherDims ⟨4, ![4, K, 64, 64]⟩ ⟨2, ![224, 1]⟩ ⟨4, ![4, K, 224, 64]⟩) x idx
      (ix4 n k y z) = x (ix4 n k r z) := by
  unfold Host.gather
  congr 1
  funext a
  refine Fin.ext ?_
  match a with
  | ⟨2, _⟩ =>
    refine Eq.trans ?_ (cut_word r.val 63 (by omega) (by omega))
    rw [← h]
    refine congrArg (fun i => min (idx i).toInt.toNat 63) (funext fun b => Fin.ext ?_)
    match b with
    | ⟨0, _⟩ => rfl
    | ⟨1, _⟩ => rfl
  | ⟨0, _⟩ => show 0 + 0 + n.val = n.val; omega
  | ⟨1, _⟩ => show 0 + 0 + k.val = k.val; omega
  | ⟨3, _⟩ => show 0 + 0 + z.val = z.val; omega

/-- Columns of each image of a stack. -/
theorem gather_axis3 {K : ℕ} (wf : GatherDims.WF ⟨4, ![4, K, 224, 64]⟩ ⟨2, ![224, 1]⟩ ⟨4, ![4, K, 224, 224]⟩ [0, 1, 2] [3] [] [3] [] 1 ![4, K, 224, 1])
    (x : (⟨4, ![4, K, 224, 64]⟩ : Shape).Idx → α) (idx : IVec ⟨2, ![224, 1]⟩ 32) (n : Fin 4) (k : Fin K) (y z : Fin 224)
    (r : Fin 64) (h : idx (ix2 z 0) = BitVec.ofNat 32 r.val) :
    Host.gather (⟨[0, 1, 2], [3], [], [], [3], 1, ![4, K, 224, 1], wf⟩ : GatherDims ⟨4, ![4, K, 224, 64]⟩ ⟨2, ![224, 1]⟩ ⟨4, ![4, K, 224, 224]⟩) x idx
      (ix4 n k y z) = x (ix4 n k y r) := by
  unfold Host.gather
  congr 1
  funext a
  refine Fin.ext ?_
  match a with
  | ⟨3, _⟩ =>
    refine Eq.trans ?_ (cut_word r.val 63 (by omega) (by omega))
    rw [← h]
    refine congrArg (fun i => min (idx i).toInt.toNat 63) (funext fun b => Fin.ext ?_)
    match b with
    | ⟨0, _⟩ => rfl
    | ⟨1, _⟩ => rfl
  | ⟨0, _⟩ => show 0 + 0 + n.val = n.val; omega
  | ⟨1, _⟩ => show 0 + 0 + k.val = k.val; omega
  | ⟨2, _⟩ => show 0 + 0 + y.val = y.val; omega

/-- Rows of each image. -/
theorem gather_axis1 (wf : GatherDims.WF ⟨3, ![4, 64, 64]⟩ ⟨2, ![224, 1]⟩ ⟨3, ![4, 224, 64]⟩ [0, 2] [1] [] [1] [] 1 ![4, 1, 64])
    (x : (⟨3, ![4, 64, 64]⟩ : Shape).Idx → α) (idx : IVec ⟨2, ![224, 1]⟩ 32) (n : Fin 4) (y : Fin 224) (z : Fin 64)
    (r : Fin 64) (h : idx (ix2 y 0) = BitVec.ofNat 32 r.val) :
    Host.gather (⟨[0, 2], [1], [], [], [1], 1, ![4, 1, 64], wf⟩ : GatherDims ⟨3, ![4, 64, 64]⟩ ⟨2, ![224, 1]⟩ ⟨3, ![4, 224, 64]⟩) x idx
      (ix3 n y z) = x (ix3 n r z) := by
  unfold Host.gather
  congr 1
  funext a
  refine Fin.ext ?_
  match a with
  | ⟨1, _⟩ =>
    refine Eq.trans ?_ (cut_word r.val 63 (by omega) (by omega))
    rw [← h]
    refine congrArg (fun i => min (idx i).toInt.toNat 63) (funext fun b => Fin.ext ?_)
    match b with
    | ⟨0, _⟩ => rfl
    | ⟨1, _⟩ => rfl
  | ⟨0, _⟩ => show 0 + 0 + n.val = n.val; omega
  | ⟨2, _⟩ => show 0 + 0 + z.val = z.val; omega

/-- Columns of each image. -/
theorem gather_last (wf : GatherDims.WF ⟨3, ![4, 224, 64]⟩ ⟨2, ![224, 1]⟩ ⟨3, ![4, 224, 224]⟩ [0, 1] [2] [] [2] [] 1 ![4, 224, 1])
    (x : (⟨3, ![4, 224, 64]⟩ : Shape).Idx → α) (idx : IVec ⟨2, ![224, 1]⟩ 32) (n : Fin 4) (y z : Fin 224)
    (r : Fin 64) (h : idx (ix2 z 0) = BitVec.ofNat 32 r.val) :
    Host.gather (⟨[0, 1], [2], [], [], [2], 1, ![4, 224, 1], wf⟩ : GatherDims ⟨3, ![4, 224, 64]⟩ ⟨2, ![224, 1]⟩ ⟨3, ![4, 224, 224]⟩) x idx
      (ix3 n y z) = x (ix3 n y r) := by
  unfold Host.gather
  congr 1
  funext a
  refine Fin.ext ?_
  match a with
  | ⟨2, _⟩ =>
    refine Eq.trans ?_ (cut_word r.val 63 (by omega) (by omega))
    rw [← h]
    refine congrArg (fun i => min (idx i).toInt.toNat 63) (funext fun b => Fin.ext ?_)
    match b with
    | ⟨0, _⟩ => rfl
    | ⟨1, _⟩ => rfl
  | ⟨0, _⟩ => show 0 + 0 + n.val = n.val; omega
  | ⟨1, _⟩ => show 0 + 0 + y.val = y.val; omega

end Cert.Rasterize

end
-- ==== Proof.RefResize.lean ====
/- The reference's nearest resize reads row and column `src`. -/
module

public import proofs.«01_k».proof.Proof.RefChoice
public import proofs.«01_k».proof.Proof.Gathers

@[expose] public section

set_option maxRecDepth 16384

noncomputable section

namespace Cert.Rasterize

open Idealize.ShloMosaic Idealize.ShloMosaic.TcCoe Idealize.SL.Sem Cert.ReferenceIdeal Cert.ReferenceIdeal.Gen Cert.ReferenceIdeal.Value

variable (V0 : Valuation τ sig (Elt Ideal))

/-- A small word as a number. -/
theorem sitofp_word (r : ℕ) (h : r < 2 ^ 31) : FloatOps.sitofp (F := Ideal) .f32 (BitVec.ofNat 32 r) = ((r : ℝ) : EReal) := by
  show (((BitVec.ofNat 32 r).toInt : ℝ) : EReal) = _
  rw [BitVec.toInt_eq_toNat_of_lt (by rw [BitVec.toNat_ofNat]; omega), BitVec.toNat_ofNat, Nat.mod_eq_of_lt (by omega)]
  simp

/-- The row or column that resized row or column `i` reads, as the floor of its centre's place. -/
theorem src_floor (i : Fin 224) : ⌊((i.val : ℝ) + 1 / 2) * 64 / 224⌋ = ((src i).val : ℤ) := by
  have h1 : 224 * (src i).val ≤ 64 * i.val + 32 := by show 224 * ((64 * i.val + 32) / 224) ≤ _; omega
  have h2 : 64 * i.val + 32 < 224 * ((src i).val + 1) := by show _ < 224 * ((64 * i.val + 32) / 224 + 1); omega
  have h1' : (224 : ℝ) * (src i).val ≤ 64 * i.val + 32 := by exact_mod_cast h1
  have h2' : (64 : ℝ) * i.val + 32 < 224 * ((src i).val + 1) := by exact_mod_cast h2
  rw [Int.floor_eq_iff]
  constructor
  · rw [le_div_iff₀ (by norm_num)]; push_cast; linarith
  · rw [div_lt_iff₀ (by norm_num)]; push_cast; linarith

/-- The word of the row or column that resized row or column `i` reads. -/
theorem resize_word (i : Fin 224) : (res_main_call4_v8 V0 : S224.Idx → BitVec 32) (ix1 i) = BitVec.ofNat 32 (src i).val := by
  unfold res_main_call4_v8
  pointwise
  rw [ofBits_half, ofBits_64, ofBits_224]
  rw [sitofp_word i.val (by omega), ← EReal.coe_add, ← EReal.coe_mul, Ideal.div_coe (by norm_num), ← EReal.coe_mul, mul_one_div]
  show BitVec.ofInt 32 (Ideal.toIntClamped _ _ (((⌊((i.val : ℝ) + 1 / 2) * 64 / 224⌋ : ℤ) : ℝ) : EReal)) = _
  rw [src_floor]
  show BitVec.ofInt 32 (max (-((2 ^ (32 - 1) : ℕ) : ℤ)) (min (((2 ^ (32 - 1) : ℕ) : ℤ) - 1)
    (if (0 : ℝ) ≤ (((src i).val : ℤ) : ℝ) then ⌊(((src i).val : ℤ) : ℝ)⌋ else ⌈(((src i).val : ℤ) : ℝ)⌉))) = _
  rw [if_pos (by positivity), Int.floor_intCast, min_eq_right (by have := (src i).isLt; omega), max_eq_right (by have := (src i).isLt; omega)]
  exact BitVec.ofInt_natCast ..

/-- That word after the wrap of negative ones, as a column. -/
theorem wrapped_word (u : IVec S224 32) (i : Fin 224) (h : u (ix1 i) = BitVec.ofNat 32 (src i).val) :
    broadcastInDim S224x1 ![0] bcast_S224_S224x1_0 (select (cmpi .slt u (broadcastInDim S224 ![] bcast_S_S224 (constantI S_ 32 0#32)))
      (addi u (broadcastInDim S224 ![] bcast_S_S224 (constantI S_ 32 64#32))) u) (ix2 i 0) = BitVec.ofNat 32 (src i).val := by
  pointwise
  rw [h]
  exact (by decide +kernel : ∀ r : Fin 64, Scalar.select (IntOp.cmpi CmpIPredicate.slt (BitVec.ofNat 32 r.val) 0#32)
    (IntOp.addi (BitVec.ofNat 32 r.val) 64#32) (BitVec.ofNat 32 r.val) = BitVec.ofNat 32 r.val) (src i)

/-- The sum over the slots of a product, as columns of an image. -/
theorem slots_sum {K : ℕ} (g : FVec Ideal ⟨5, ![4, 64, 64, 10, K]⟩ .f32) (w : FVec Ideal ⟨5, ![4, 64, 64, 10, K]⟩ .f32)
    (hr : (⟨5, ![4, 64, 64, 10, K]⟩ : Shape).ReducesTo [3] ⟨4, ![4, 64, 64, K]⟩) (ht : (⟨4, ![4, 64, 64, K]⟩ : Shape).Transposes [0, 3, 1, 2] ⟨4, ![4, K, 64, 64]⟩)
    (n : Fin 4) (k : Fin K) (y x : Fin 64) :
    transpose ⟨4, ![4, K, 64, 64]⟩ [0, 3, 1, 2] (Host.reduceAdd (mulf g w) (constant S_ .f32 0x00000000#32) hr h_S_) ht (ix4 n k y x)
      = ∑ l : Fin 10, g (ix5 n y x l k) * w (ix5 n y x l k) := by
  have e : ht.src (ix4 n k y x) = ix4 n y x k := by
    funext a
    apply Fin.ext
    match a with
    | ⟨0, _⟩ => rfl
    | ⟨1, _⟩ => rfl
    | ⟨2, _⟩ => rfl
    | ⟨3, _⟩ => rfl
  refine (congrArg (Host.reduceAdd (mulf g w) (constant S_ .f32 0x00000000#32) hr h_S_) e).trans ?_
  pointwise

end Cert.Rasterize

end
-- ==== Proof.RefAttr.lean ====
/- The reference's attribute maps at an entry, and its silhouettes and mask. -/
module

public import proofs.«01_k».proof.Proof.RefResize

@[expose] public section

set_option maxRecDepth 16384

noncomputable section

namespace Cert.Rasterize

open Idealize.ShloMosaic Idealize.ShloMosaic.TcCoe Idealize.SL.Sem Cert.ReferenceIdeal Cert.ReferenceIdeal.Gen Cert.ReferenceIdeal.Value

variable (V0 : Valuation τ sig (Elt Ideal))

/-- What is known of the weights at every pixel. -/
def Clear (v : Verts) : Prop := ∀ n y x, Sorted 10 (wAt v n y x) (order (wAt v n y x)) thr thrUp

/-- The interpolation from the ten slots. -/
theorem interp_slots (v : Verts) (hv : Clear v) (n : Fin 4) (y x : Fin 64) (a : Fin 1152 → EReal) :
    interp (wAt v n y x) a = ∑ l : Fin 10, a (slot v n y x l) * (if passes v n y x l then wAt v n y x (slot v n y x l) else 0) :=
  (hv n y x).sum_selected (M := 9) (by decide) rfl a

/-- The vertex whose row a slot reads: its own, or the first. -/
def rowOf (v : Verts) (n : Fin 4) (y x : Fin 64) (l : Fin 10) : Fin 1152 := if passes v n y x l then slot v n y x l else 0

/-- The words of the rows, after the wrap of negative ones. -/
def rowWords : IVec S4x64x64x10x1 32 :=
  broadcastInDim S4x64x64x10x1 ![0, 1, 2, 3] bcast_S4x64x64x10_S4x64x64x10x1_0_1_2_3 (select (cmpi .slt (res_main_v85 V0) (broadcastInDim S4x64x64x10 ![] bcast_S_S4x64x64x10 (constantI S_ 32 0#32))) (addi (res_main_v85 V0) (broadcastInDim S4x64x64x10 ![] bcast_S_S4x64x64x10 (constantI S_ 32 1152#32))) (res_main_v85 V0))

/-- The word of the row that a slot reads. -/
theorem rowWords_apply (n : Fin 4) (y x : Fin 64) (l : Fin 10) :
    rowWords V0 (ix5 n y x l 0) = BitVec.ofNat 32 (rowOf (vertsOf V0) n y x l).val := by
  have e := ref_v85 V0 n y x l
  have e' : (res_main_v85 V0 : S4x64x64x10.Idx → BitVec 32) (ix4 n y x l) = BitVec.ofNat 32 (rowOf (vertsOf V0) n y x l).val := by
    rw [e, rowOf]
    split <;> rfl
  unfold rowWords
  generalize res_main_v85 V0 = z at *
  pointwise
  rw [e']
  exact (by decide +kernel : ∀ r : Fin 1152, Scalar.select (IntOp.cmpi CmpIPredicate.slt (BitVec.ofNat 32 r.val) 0#32)
    (IntOp.addi (BitVec.ofNat 32 r.val) 1152#32) (BitVec.ofNat 32 r.val) = BitVec.ofNat 32 r.val) _

/-- The weights that the slots count with, one for each column of an attribute. -/
theorem slot_weights {K : ℕ} (h : S4x64x64x10x1.BroadcastsInDim ⟨5, ![4, 64, 64, 10, K]⟩ (![0, 1, 2, 3, 4] : Fin 5 → Fin 5))
    (n : Fin 4) (y x : Fin 64) (l : Fin 10) (k : Fin K) :
    (broadcastInDim ⟨5, ![4, 64, 64, 10, K]⟩ ![0, 1, 2, 3, 4] h
      (broadcastInDim S4x64x64x10x1 ![0, 1, 2, 3] bcast_S4x64x64x10_S4x64x64x10x1_0_1_2_3 (res_main_v89 V0)) : _ → EReal) (ix5 n y x l k)
      = if passes (vertsOf V0) n y x l then wAt (vertsOf V0) n y x (slot (vertsOf V0) n y x l) else 0 := by
  rw [← ref_v89 V0 n y x l]
  generalize res_main_v89 V0 = z at *
  pointwise

/-- An attribute's map in the reference: rows by the slots' vertices, times their weights, summed; then resized. -/
theorem ref_attr {K : ℕ} (hv : Clear (vertsOf V0)) (a : FVec Ideal ⟨2, ![1152, K]⟩ .f32)
    (h1 : GatherDims.WF ⟨2, ![1152, K]⟩ ⟨5, ![4, 64, 64, 10, 1]⟩ ⟨5, ![4, 64, 64, 10, K]⟩ [4] [0] [] [0] [] 4 ![1, K])
    (h2 : GatherDims.WF ⟨4, ![4, K, 64, 64]⟩ ⟨2, ![224, 1]⟩ ⟨4, ![4, K, 224, 64]⟩ [0, 1, 3] [2] [] [2] [] 1 ![4, K, 1, 64])
    (h3 : GatherDims.WF ⟨4, ![4, K, 224, 64]⟩ ⟨2, ![224, 1]⟩ ⟨4, ![4, K, 224, 224]⟩ [0, 1, 2] [3] [] [3] [] 1 ![4, K, 224, 1])
    (hr : (⟨5, ![4, 64, 64, 10, K]⟩ : Shape).ReducesTo [3] ⟨4, ![4, 64, 64, K]⟩) (ht : (⟨4, ![4, 64, 64, K]⟩ : Shape).Transposes [0, 3, 1, 2] ⟨4, ![4, K, 64, 64]⟩)
    (hb : S4x64x64x10x1.BroadcastsInDim ⟨5, ![4, 64, 64, 10, K]⟩ (![0, 1, 2, 3, 4] : Fin 5 → Fin 5))
    (rows cols : IVec S224x1 32) (er : ∀ i, rows (ix2 i 0) = BitVec.ofNat 32 (src i).val) (ec : ∀ i, cols (ix2 i 0) = BitVec.ofNat 32 (src i).val)
    (n : Fin 4) (k : Fin K) (y x : Fin 224) :
    Host.gather (⟨[0, 1, 2], [3], [], [], [3], 1, ![4, K, 224, 1], h3⟩ : GatherDims ⟨4, ![4, K, 224, 64]⟩ ⟨2, ![224, 1]⟩ ⟨4, ![4, K, 224, 224]⟩)
      (Host.gather (⟨[0, 1, 3], [2], [], [], [2], 1, ![4, K, 1, 64], h2⟩ : GatherDims ⟨4, ![4, K, 64, 64]⟩ ⟨2, ![224, 1]⟩ ⟨4, ![4, K, 224, 64]⟩)
        (transpose ⟨4, ![4, K, 64, 64]⟩ [0, 3, 1, 2] (Host.reduceAdd (mulf
          (Host.gather (⟨[4], [0], [], [], [0], 4, ![1, K], h1⟩ : GatherDims ⟨2, ![1152, K]⟩ ⟨5, ![4, 64, 64, 10, 1]⟩ ⟨5, ![4, 64, 64, 10, K]⟩) a (rowWords V0))
          (broadcastInDim ⟨5, ![4, 64, 64, 10, K]⟩ ![0, 1, 2, 3, 4] hb
            (broadcastInDim S4x64x64x10x1 ![0, 1, 2, 3] bcast_S4x64x64x10_S4x64x64x10x1_0_1_2_3 (res_main_v89 V0))))
          (constant S_ .f32 0x00000000#32) hr h_S_) ht) rows) cols (ix4 n k y x)
      = attrAt (vertsOf V0) a n (src y) (src x) k := by
  refine (gather_axis3 h3 _ cols n k y x (src x) (ec x)).trans ((gather_axis2 h2 _ rows n k y (src x) (src y) (er y)).trans ?_)
  refine (slots_sum _ _ hr ht n k (src y) (src x)).trans ?_
  unfold attrAt
  rw [interp_slots _ hv]
  refine Finset.sum_congr rfl fun l _ => ?_
  refine (congrArg₂ (· * ·) (gather_rows h1 a (rowWords V0) n (src y) (src x) l k _ (rowWords_apply V0 n (src y) (src x) l))
    (slot_weights V0 hb n (src y) (src x) l k)).trans ?_
  unfold rowOf
  split
  · rfl
  · exact (mul_zero _).trans (mul_zero _).symm

/-- The part scores. -/
theorem ref_part (hv : Clear (vertsOf V0)) (n : Fin 4) (k : Fin 12) (y x : Fin 224) : (val4 V0 (Proc.devRef .tc main_v102) : S4x12x224x224.Idx → EReal) (ix4 n k y x)
    = attrAt (vertsOf V0) (V0 (Proc.devRef .tc main_arg3)) n (src y) (src x) k :=
  (congrFun (val4_main_v102 V0) (ix4 n k y x)).trans
    (ref_attr V0 hv (V0 (Proc.devRef .tc main_arg3)) _ _ _ _ _ _ _ _ (fun i => wrapped_word _ i (resize_word V0 i)) (fun i => wrapped_word _ i (resize_word V0 i)) n k y x)

/-- The orientation scores before the soft maximum. -/
theorem ref_orient (hv : Clear (vertsOf V0)) (n : Fin 4) (k : Fin 12) (y x : Fin 224) : (res_main_v115 V0 : S4x12x224x224.Idx → EReal) (ix4 n k y x)
    = attrAt (vertsOf V0) (V0 (Proc.devRef .tc main_arg2)) n (src y) (src x) k :=
  ref_attr V0 hv (V0 (Proc.devRef .tc main_arg2)) _ _ _ _ _ _ _ _ (fun i => wrapped_word _ i (resize_word V0 i)) (fun i => wrapped_word _ i (resize_word V0 i)) n k y x

/-- The features before the normalisation. -/
theorem ref_feature (hv : Clear (vertsOf V0)) (n : Fin 4) (k : Fin 64) (y x : Fin 224) : (res_main_v139 V0 : S4x64x224x224.Idx → EReal) (ix4 n k y x)
    = attrAt (vertsOf V0) (V0 (Proc.devRef .tc main_arg4)) n (src y) (src x) k :=
  ref_attr V0 hv (V0 (Proc.devRef .tc main_arg4)) _ _ _ _ _ _ _ _ (fun i => wrapped_word _ i (resize_word V0 i)) (fun i => wrapped_word _ i (resize_word V0 i)) n k y x

end Cert.Rasterize

end
-- ==== Proof.RefResults.lean ====
/- The reference's results at an entry. -/
module

public import proofs.«01_k».proof.Proof.RefAttr

@[expose] public section

set_option maxRecDepth 16384

noncomputable section

namespace Cert.Rasterize

open Idealize.ShloMosaic Idealize.ShloMosaic.TcCoe Idealize.SL.Sem Cert.ReferenceIdeal Cert.ReferenceIdeal.Gen Cert.ReferenceIdeal.Value

/-- The greatest entry along the second axis. -/
theorem fold_axis1 (z : S4x12x224x224.Idx → EReal) (h : S4x12x224x224.ReducesTo [1] S4x224x224) (n : Fin 4) (y x : Fin 224) [DecidablePred fun i => h.drop i = ix3 n y x] :
    (Finset.univ.filter fun i => h.drop i = ix3 n y x).fold max ⊥ z = Finset.univ.fold max ⊥ fun k : Fin 12 => z (ix4 n k y x) := by
  refine le_antisymm ((Finset.fold_max_le _).mpr ⟨bot_le, fun i hi => ?_⟩) (fold_max_le.mpr fun k => ?_)
  · have e := (Finset.mem_filter.mp hi).2
    have e0 : (i 0 : Fin 4) = n := congrFun e 0
    have e1 : (i 2 : Fin 224) = y := congrFun e 1
    have e2 : (i 3 : Fin 224) = x := congrFun e 2
    have ei : i = ix4 n (i 1 : Fin 12) y x := by
      funext a
      match a with
      | ⟨0, _⟩ => exact e0
      | ⟨1, _⟩ => rfl
      | ⟨2, _⟩ => exact e1
      | ⟨3, _⟩ => exact e2
    rw [ei]
    exact le_fold_max (fun k : Fin 12 => z (ix4 n k y x)) (i 1)
  · refine ((Finset.fold_max_le _).mp le_rfl).2 _ (Finset.mem_filter.mpr ⟨Finset.mem_univ _, ?_⟩)
    funext a
    match a with
    | ⟨0, _⟩ => rfl
    | ⟨1, _⟩ => rfl
    | ⟨2, _⟩ => rfl

/-- The first slot has a vertex where the mask is one. -/
theorem mask_word {v : Verts} (hv : Clear v) (n : Fin 4) (y x : Fin 64) :
    FloatOps.uitofp (F := Ideal) .f32 (IntOp.cmpi CmpIPredicate.ne
      (if passes v n y x 0 then BitVec.ofNat 32 ((slot v n y x 0).val + 1152 * n.val) else 4294967295#32) 4294967295#32) = maskAt v n y x := by
  have e : passes v n y x 0 ↔ thr < iterMax (wAt v n y x) 0 := by
    rw [(hv n y x).iter_zero (by decide)]
    exact Iff.rfl
  unfold maskAt
  by_cases h : passes v n y x 0
  · rw [if_pos h, if_pos (e.mp h), globalWord_ne]
    exact uitofp_one
  · rw [if_neg h, if_neg (fun h' => h (e.mpr h'))]
    exact uitofp_zero

/-- Equal subtrahends give equal exponentials. -/
theorem exp_sub_congr (a : EReal) {b c : EReal} (h : b = c) : Ideal.exp (a - b) = Ideal.exp (a - c) := by rw [h]

variable (V0 : Valuation τ sig (Elt Ideal)) (hv : Clear (vertsOf V0))
include hv

/-- The exponentials of the soft maximum. -/
theorem ref_exp (n : Fin 4) (k : Fin 12) (y x : Fin 224) : (res_main_v122 V0 : S4x12x224x224.Idx → EReal) (ix4 n k y x)
    = Ideal.exp (attrAt (vertsOf V0) (V0 (Proc.devRef .tc main_arg2)) n (src y) (src x) k
        - Finset.univ.fold max ⊥ (attrAt (vertsOf V0) (V0 (Proc.devRef .tc main_arg2)) n (src y) (src x))) := by
  have e := fun k => ref_orient V0 hv n k y x
  rw [← e k, ← funext e, ← ofBits_negInf]
  unfold res_main_v122
  generalize res_main_v115 V0 = z at *
  pointwise
  rw [ofBits_negInf]
  exact exp_sub_congr _ ((max_eq_right bot_le).trans (fold_axis1 z _ n y x))

/-- The orientation weights. -/
theorem ref_soft (n : Fin 4) (k : Fin 12) (y x : Fin 224) : (val4 V0 (Proc.devRef .tc main_v126) : S4x12x224x224.Idx → EReal) (ix4 n k y x)
    = soft (attrAt (vertsOf V0) (V0 (Proc.devRef .tc main_arg2)) n (src y) (src x)) k := by
  have e := fun k => ref_exp V0 hv n k y x
  refine (congrFun (val4_main_v126 V0) (ix4 n k y x)).trans ?_
  unfold soft
  simp only [← e]
  generalize res_main_v122 V0 = z at *
  pointwise

/-- The features. -/
theorem ref_normed (n : Fin 4) (k : Fin 64) (y x : Fin 224) : (val4 V0 (Proc.devRef .tc main_v147) : S4x64x224x224.Idx → EReal) (ix4 n k y x)
    = normed (attrAt (vertsOf V0) (V0 (Proc.devRef .tc main_arg4)) n (src y) (src x)) k := by
  have e := fun k => ref_feature V0 hv n k y x
  refine (congrFun (val4_main_v147 V0) (ix4 n k y x)).trans ?_
  unfold normed eps
  simp only [← e]
  generalize res_main_v139 V0 = z at *
  pointwise

/-- The silhouettes. -/
theorem ref_cover (n : Fin 4) (y x : Fin 64) : (val4 V0 (Proc.devRef .tc main_v51) : S4x64x64.Idx → EReal) (ix3 n y x)
    = coverAt (vertsOf V0) n y x := by
  have e := fun l => ref_v43 V0 n y x l
  refine (congrFun (val4_main_v51 V0) (ix3 n y x)).trans ?_
  unfold coverAt clip01
  rw [interp_slots _ hv]
  simp only [one_mul, ← e]
  generalize res_main_v43 V0 = z at *
  simp only [id_eq]
  pointwise

/-- The mask. -/
theorem ref_mask (n : Fin 4) (y x : Fin 224) : (val4 V0 (Proc.devRef .tc main_v49) : S4x224x224.Idx → EReal) (ix3 n y x)
    = maskAt (vertsOf V0) n (src y) (src x) := by
  have e := ref_v40 V0 n (src y) (src x) 0
  refine (congrFun (val4_main_v49 V0) (ix3 n y x)).trans ?_
  refine (gather_last _ _ _ n y x (src x) (wrapped_word _ x (resize_word V0 x))).trans
    ((gather_axis1 _ _ _ n y (src x) (src y) (wrapped_word _ y (resize_word V0 y))).trans ?_)
  generalize res_main_v40 V0 = z at *
  pointwise
  exact (congrArg (fun u => FloatOps.uitofp (F := Ideal) .f32 (IntOp.cmpi CmpIPredicate.ne u 4294967295#32)) e).trans (mask_word hv n (src y) (src x))

end Cert.Rasterize

end
-- ==== Proof.RefVisible.lean ====
/- The reference's visibilities: the slots' vertices are marked, and a vertex is marked where some pixel counts it. -/
module

public import proofs.«01_k».proof.Proof.RefAttr
public import Idealize.ShloMosaic.Lib.Routing.OpsSet

@[expose] public section

set_option maxRecDepth 16384

noncomputable section

namespace Cert.Rasterize

open Idealize.ShloMosaic Idealize.ShloMosaic.TcCoe Idealize.SL.Sem Cert.ReferenceIdeal Cert.ReferenceIdeal.Gen Cert.ReferenceIdeal.Value

variable (V0 : Valuation τ sig (Elt Ideal))

/-- The place that slot `l` of a pixel marks: after its vertex's number, or the first. -/
def placeOf (v : Verts) (n : Fin 4) (y x : Fin 64) (l : Fin 10) : ℕ := if passes v n y x l then (slot v n y x l).val + 1 else 0

/-- There are 1153 places. -/
theorem placeOf_lt (v : Verts) (n : Fin 4) (y x : Fin 64) (l : Fin 10) : placeOf v n y x l < 1153 := by
  unfold placeOf
  split <;> omega

/-- The word of the place that a slot marks. -/
theorem ref_v61 (n : Fin 4) (y x : Fin 64) (l : Fin 10) : (res_main_v61 V0 : S4x40960.Idx → BitVec 32) (ix2 n ⟨640 * y.val + 10 * x.val + l.val, by omega⟩)
    = BitVec.ofNat 32 (placeOf (vertsOf V0) n y x l) := by
  have e := ref_v40 V0 n y x l
  unfold res_main_v61
  generalize res_main_v40 V0 = z at *
  simp only [id_eq]
  pointwise
  show placeWord n (z (ix4 n y x l)) = _
  rw [e, placeOf]
  split
  · exact placeWord_vertex n _
  · exact placeWord_none n

/-- An image's number is not wrapped. -/
theorem wrap_image : ∀ n : Fin 4, Scalar.select (IntOp.cmpi .slt (BitVec.ofNat 32 n.val) 0#32) (IntOp.addi (BitVec.ofNat 32 n.val) 4#32) (BitVec.ofNat 32 n.val) = BitVec.ofNat 32 n.val := by
  decide +kernel

/-- A place's number is not wrapped. -/
theorem wrap_place : ∀ q : Fin 1153, Scalar.select (IntOp.cmpi .slt (BitVec.ofNat 32 q.val) 0#32) (IntOp.addi (BitVec.ofNat 32 q.val) 1153#32) (BitVec.ofNat 32 q.val) = BitVec.ofNat 32 q.val := by
  decide +kernel

/-- The places' words: the image, and the place in it. -/
def visWords : IVec S4x40960x2 32 :=
  concatenate S4x40960x2 2 [⟨S4x40960x1, (broadcastInDim S4x40960x1 ![0, 1] bcast_S4x40960_S4x40960x1_0_1 (broadcastInDim S4x40960 ![0, 1] bcast_S4x1_S4x40960_0_1 (select (cmpi .slt (res_main_v64 V0) (broadcastInDim S4x1 ![] bcast_S_S4x1 (constantI S_ 32 0#32))) (addi (res_main_v64 V0) (broadcastInDim S4x1 ![] bcast_S_S4x1 (constantI S_ 32 4#32))) (res_main_v64 V0))))⟩, ⟨S4x40960x1, (broadcastInDim S4x40960x1 ![0, 1] bcast_S4x40960_S4x40960x1_0_1 (select (cmpi .slt (res_main_v61 V0) (broadcastInDim S4x40960 ![] bcast_S_S4x40960 (constantI S_ 32 0#32))) (addi (res_main_v61 V0) (broadcastInDim S4x40960 ![] bcast_S_S4x40960 (constantI S_ 32 1153#32))) (res_main_v61 V0)))⟩] concatenates_S4x40960x1_S4x40960x1_S4x40960x2_d2

/-- A slot's first word is its image. -/
theorem visWords_image (n : Fin 4) (j : Fin 40960) : visWords V0 (ix3 n j 0) = BitVec.ofNat 32 n.val := by
  unfold visWords res_main_v64
  generalize res_main_v61 V0 = z
  pointwise
  exact wrap_image n

/-- A slot's second word is its place. -/
theorem visWords_place (n : Fin 4) (y x : Fin 64) (l : Fin 10) : visWords V0 (ix3 n ⟨640 * y.val + 10 * x.val + l.val, by omega⟩ 1)
    = BitVec.ofNat 32 (placeOf (vertsOf V0) n y x l) := by
  have e := ref_v61 V0 n y x l
  unfold visWords
  generalize res_main_v61 V0 = z at *
  generalize res_main_v64 V0 = z' at *
  pointwise
  rw [e]
  exact wrap_place ⟨placeOf (vertsOf V0) n y x l, placeOf_lt _ n y x l⟩

/-- Whether a slot of some pixel has the vertex. -/
def Listed (v : Verts) (n : Fin 4) (p : Fin 1152) : Prop := ∃ (y x : Fin 64) (l : Fin 10), passes v n y x l ∧ slot v n y x l = p

/-- A listed vertex is one that some pixel counts. -/
theorem listed_iff (v : Verts) (hv : Clear v) (n : Fin 4) (p : Fin 1152) : Listed v n p ↔ 0 < max (seenIn v n 0 p) (seenIn v n 1 p) := by
  have hs : ∀ y x : Fin 64, 0 < sel (wAt v n y x) p ↔ ∃ l : Fin 10, passes v n y x l ∧ slot v n y x l = p := by
    intro y x
    have e := (hv n y x).selected (M := 9) (by decide) rfl p
    constructor
    · intro h
      have h1 : max (iterMax (wAt v n y x) 9) thrUp ≤ wAt v n y x p := by
        by_contra h'
        rw [sel, if_neg h'] at h
        exact lt_irrefl _ h
      obtain ⟨i, hi, hp, ht⟩ := e.mp h1
      refine ⟨⟨i.val, hi⟩, ?_, hp.symm⟩
      show thr < wAt v n y x (order (wAt v n y x) i)
      rw [← hp]
      exact ht
    · rintro ⟨l, hl, hp⟩
      have h1 := e.mpr ⟨⟨l.val, by omega⟩, l.isLt, hp.symm, hp ▸ hl⟩
      rw [sel, if_pos h1]
      exact lt_of_lt_of_le (lt_trans thr_pos thr_lt_thrUp) ((le_max_right _ _).trans h1)
  have hseen : ∀ t : Fin 2, 0 < seenIn v n t p ↔ ∃ q : Fin 2048, 0 < sel (wAt v n ⟨32 * t.val + q.val / 64, by omega⟩ ⟨q.val % 64, by omega⟩) p := by
    intro t
    unfold seenIn
    constructor
    · intro h
      by_contra h'
      exact absurd (fold_max_le.mpr fun q => not_lt.mp fun hq => h' ⟨q, hq⟩) (not_le.mpr h)
    · rintro ⟨q, hq⟩
      exact lt_of_lt_of_le hq (le_fold_max (fun q : Fin 2048 => sel (wAt v n ⟨32 * t.val + q.val / 64, by omega⟩ ⟨q.val % 64, by omega⟩) p) q)
  rw [lt_max_iff, hseen, hseen]
  constructor
  · rintro ⟨y, x, h⟩
    have h' := (hs y x).mpr h
    by_cases hy : y.val < 32
    · refine Or.inl ⟨⟨64 * y.val + x.val, by omega⟩, ?_⟩
      have e1 : (⟨32 * (0 : Fin 2).val + (64 * y.val + x.val) / 64, by show 32 * 0 + _ < 64; omega⟩ : Fin 64) = y := Fin.ext (by show 32 * 0 + _ = y.val; omega)
      have e2 : (⟨(64 * y.val + x.val) % 64, by omega⟩ : Fin 64) = x := Fin.ext (by show (64 * y.val + x.val) % 64 = x.val; omega)
      simp only [e1, e2]
      exact h'
    · refine Or.inr ⟨⟨64 * (y.val - 32) + x.val, by omega⟩, ?_⟩
      have e1 : (⟨32 * (1 : Fin 2).val + (64 * (y.val - 32) + x.val) / 64, by show 32 * 1 + _ < 64; omega⟩ : Fin 64) = y := Fin.ext (by show 32 * 1 + _ = y.val; omega)
      have e2 : (⟨(64 * (y.val - 32) + x.val) % 64, by omega⟩ : Fin 64) = x := Fin.ext (by show (64 * (y.val - 32) + x.val) % 64 = x.val; omega)
      simp only [e1, e2]
      exact h'
  · rintro (⟨q, h⟩ | ⟨q, h⟩)
    · obtain ⟨l, hl⟩ := (hs _ _).mp h
      exact ⟨_, _, l, hl⟩
    · obtain ⟨l, hl⟩ := (hs _ _).mp h
      exact ⟨_, _, l, hl⟩

/-- Update `(n, j)` lands at place `q` of image `n'` when its words say so. -/
theorem lands (n n' : Fin 4) (j : Fin 40960) (q : Fin 1153) :
    scatter_S4x1153_S4x40960x2_S4x40960_n_01_01_2.resultIdx? (ix2 n j : S4x40960.Idx) (visWords V0) = some (ix2 n' q : S4x1153.Idx)
      ↔ (visWords V0 (ix3 n j 0)).toInt = n'.val ∧ (visWords V0 (ix3 n j 1)).toInt = q.val :=
  Routing.scatter_lands2 scatter_S4x1153_S4x40960x2_S4x40960_n_01_01_2 rfl rfl rfl (visWords V0) n j n' q

/-- A small word read with a sign. -/
theorem toInt_small (r : ℕ) (h : r < 2 ^ 31) : (BitVec.ofNat 32 r).toInt = r := by
  rw [BitVec.toInt_eq_toNat_of_lt (by rw [BitVec.toNat_ofNat]; omega), BitVec.toNat_ofNat, Nat.mod_eq_of_lt (by omega)]

/-- The reference's visibilities. -/
theorem ref_seen (hv : Clear (vertsOf V0)) (n : Fin 4) (p : Fin 1152) : (val4 V0 (Proc.devRef .tc main_v81) : S4x1152.Idx → BitVec 32) (ix2 n p)
    = visAt (vertsOf V0) n p := by
  refine (congrFun (val4_main_v81 V0) (ix2 n p)).trans ?_
  show extractStridedSlice S4x1152 ![0, 1] (Host.scatter scatter_S4x1153_S4x40960x2_S4x40960_n_01_01_2 (fun _ b => b) (broadcastInDim S4x1153 ![] bcast_S_S4x1153 (constantI S_ 32 0#32)) (visWords V0) (broadcastInDim S4x40960 ![] bcast_S_S4x40960 (constantI S_ 32 1#32))) slices_S4x1153_S4x1152_0_1 (ix2 n p) = _
  have cut : ∀ z : S4x1153.Idx → BitVec 32, extractStridedSlice S4x1152 ![0, 1] z slices_S4x1153_S4x1152_0_1 (ix2 n p) = z (ix2 n ⟨p.val + 1, by omega⟩) := by
    intro z
    pointwise
    exact congrArg (fun q => z (ix2 n q)) (Fin.ext (by dsimp only; omega))
  rw [cut]
  unfold visAt
  by_cases h : Listed (vertsOf V0) n p
  · rw [if_pos ((listed_iff _ hv n p).mp h)]
    obtain ⟨y, x, l, hl, hp⟩ := h
    refine Routing.scatter_set_hit _ _ _ _ _ 1#32 (fun _ _ => rfl) (ix2 n ⟨640 * y.val + 10 * x.val + l.val, by omega⟩ : S4x40960.Idx)
      ((lands V0 n n _ ⟨p.val + 1, by omega⟩).mpr ⟨?_, ?_⟩)
    · rw [visWords_image, toInt_small _ (by omega)]
    · rw [visWords_place, placeOf, if_pos hl, hp, toInt_small _ (by omega)]
  · rw [if_neg (fun h' => h ((listed_iff _ hv n p).mpr h'))]
    refine (Routing.scatter_set_miss _ _ _ _ _ fun k hk => h ?_).trans rfl
    have hj : (k 1).val < 40960 := (k 1).isLt
    obtain ⟨n', j, rfl⟩ : ∃ (n' : Fin 4) (j : Fin 40960), k = ix2 n' j := ⟨k 0, k 1, funext fun a => by match a with | ⟨0, _⟩ => rfl | ⟨1, _⟩ => rfl⟩
    have ⟨h0, h1⟩ := (lands V0 n' n j ⟨p.val + 1, by omega⟩).mp hk
    rw [visWords_image, toInt_small _ (by omega)] at h0
    have hn : n' = n := Fin.ext (by exact_mod_cast h0)
    subst hn
    have ej : j = ⟨640 * (⟨j.val / 640, by omega⟩ : Fin 64).val + 10 * (⟨j.val / 10 % 64, by omega⟩ : Fin 64).val + (⟨j.val % 10, by omega⟩ : Fin 10).val, by dsimp only; omega⟩ :=
      Fin.ext (by dsimp only; omega)
    rw [ej, visWords_place, toInt_small _ (by have := placeOf_lt (vertsOf V0) n' ⟨j.val / 640, by omega⟩ ⟨j.val / 10 % 64, by omega⟩ ⟨j.val % 10, by omega⟩; omega)] at h1
    refine ⟨⟨j.val / 640, by omega⟩, ⟨j.val / 10 % 64, by omega⟩, ⟨j.val % 10, by omega⟩, ?_⟩
    unfold placeOf at h1
    split at h1
    · refine ⟨‹_›, Fin.ext ?_⟩
      have : ((slot (vertsOf V0) n' ⟨j.val / 640, by omega⟩ ⟨j.val / 10 % 64, by omega⟩ ⟨j.val % 10, by omega⟩).val : ℤ) + 1 = p.val + 1 := by exact_mod_cast h1
      omega
    · exfalso
      have : (0 : ℤ) = p.val + 1 := by exact_mod_cast h1
      omega

end Cert.Rasterize

end
-- ==== Proof.RefRun.lean ====
/- What the reference leaves in its six results, by name, and its arguments unchanged. -/
module

public import proofs.«01_k».proof.Proof.Gen.ReferenceIdeal.Run
public import proofs.«01_k».proof.Proof.RefWeights

@[expose] public section

noncomputable section

namespace Cert.Rasterize

open Idealize.ShloMosaic Idealize.ShloMosaic.TcCoe Idealize.ShloMosaic.StableHlo Idealize.SL.Sem Cert.ReferenceIdeal Cert.ReferenceIdeal.Value

/-- The reference ends with each result at its last valuation, and the arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = val4 (launchContents m c) (Proc.devRef .tc main_v49)
      ∧ r.2.mem ((c.tc : Thread nD τ).loc main_v51) = val4 (launchContents m c) (Proc.devRef .tc main_v51)
      ∧ r.2.mem ((c.tc : Thread nD τ).loc main_v102) = val4 (launchContents m c) (Proc.devRef .tc main_v102)
      ∧ r.2.mem ((c.tc : Thread nD τ).loc main_v147) = val4 (launchContents m c) (Proc.devRef .tc main_v147)
      ∧ r.2.mem ((c.tc : Thread nD τ).loc main_v81) = val4 (launchContents m c) (Proc.devRef .tc main_v81)
      ∧ r.2.mem ((c.tc : Thread nD τ).loc main_v126) = val4 (launchContents m c) (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run m ρ)
  obtain ⟨r0, r1, r2, r3, r4, r5, rest⟩ := h c
  exact ⟨r0.trans (val4_main_v49 _).symm, r1.trans (val4_main_v51 _).symm, r2.trans (val4_main_v102 _).symm, r3.trans (val4_main_v147 _).symm,
    r4.trans (val4_main_v81 _).symm, r5.trans (val4_main_v126 _).symm, rest⟩

end Cert.Rasterize

end
-- ==== Proof.Clear.lean ====
/- What the precondition says of the weights: the ten greatest fall strictly, and none lies between the threshold and the next float. -/
module

public import proofs.«01_k».proof.Pre_clear
public import proofs.«01_k».proof.Proof.RefAttr

@[expose] public section

set_option maxRecDepth 16384

noncomputable section

namespace Cert.Rasterize

open Idealize.ShloMosaic Cert.Pre_clear

/-- The side conditions of the precondition's operations. -/
instance clearFacts : Cert.Pre_clear.Facts := by constructor <;> decide

/-- The row of coordinates. -/
theorem linspace_entry (i : Fin 64) : (fn_linspace (F := Ideal) (constant S_ .f32 0xBF800000#32) (constant S_ .f32 0x3F800000#32) : S64.Idx → EReal) (ix1 i) = gridAt i := by
  unfold gridAt fn_linspace
  simp only [id_eq]
  pointwise
  split <;> rfl

/-- The eleven greatest of an array's last axis. -/
abbrev eleven (w : FVec Ideal S4x64x64x1152 .f32) : FVec Ideal S4x64x64x11 .f32 :=
  (Host.topK S4x64x64x11 3 (FloatOps.cmpfTotal .gt) w Facts.sliceFits_S4x64x64x1152_S4x64x64x11).1

/-- Where a listed weight is greater than the one after it, or is not above the threshold. -/
def fallsAt (z : FVec Ideal S4x64x64x11 .f32) : IVec S4x64x64x10 1 :=
  ori (cmpf .ogt (extractStridedSlice S4x64x64x10 ![0, 0, 0, 0] z Facts.slices_S4x64x64x11_S4x64x64x10_0_0_0_0)
      (extractStridedSlice S4x64x64x10 ![0, 0, 0, 1] z Facts.slices_S4x64x64x11_S4x64x64x10_0_0_0_1))
    (cmpf .ole (extractStridedSlice S4x64x64x10 ![0, 0, 0, 0] z Facts.slices_S4x64x64x11_S4x64x64x10_0_0_0_0)
      (broadcastInDim S4x64x64x10 ![] Facts.bcast_S_S4x64x64x10 (constant S_ .f32 0x38D1B717#32)))

/-- Where a weight is not above the threshold, or at least the next float. -/
def apartAt (w : FVec Ideal S4x64x64x1152 .f32) : IVec S4x64x64x1152 1 :=
  ori (cmpf .ole w (broadcastInDim S4x64x64x1152 ![] Facts.bcast_S_S4x64x64x1152 (constant S_ .f32 0x38D1B717#32)))
    (cmpf .oge w (broadcastInDim S4x64x64x1152 ![] Facts.bcast_S_S4x64x64x1152 (constant S_ .f32 0x38D1B718#32)))

/-- A disjunction of two truth values that is one. -/
theorem one_or {p q : Prop} [Decidable p] [Decidable q] (h : IntOp.ori (BitVec.ofBool (decide p)) (BitVec.ofBool (decide q)) = 1#1) : p ∨ q := by
  by_cases hp : p
  · exact Or.inl hp
  · by_cases hq : q
    · exact Or.inr hq
    · rw [decide_eq_false hp, decide_eq_false hq] at h
      exact absurd h (by decide)

/-- A listed weight above the threshold is greater than the one after it. -/
theorem falls_entry (z : FVec Ideal S4x64x64x11 .f32) (n : Fin 4) (y x : Fin 64) (l : Fin 10) (h : fallsAt z (ix4 n y x l) = 1#1) :
    (z (ix4 n y x ⟨1 + l.val, by omega⟩) : EReal) < z (ix4 n y x ⟨l.val, by omega⟩) ∨ (z (ix4 n y x ⟨l.val, by omega⟩) : EReal) ≤ thr := by
  rw [← ofBits_thr]
  unfold fallsAt at h
  revert h
  pointwise
  exact one_or

/-- A weight above the threshold is at least the next float. -/
theorem apart_entry (w : FVec Ideal S4x64x64x1152 .f32) (n : Fin 4) (y x : Fin 64) (p : Fin 1152) (h : apartAt w (ix4 n y x p) = 1#1) :
    (w (ix4 n y x p) : EReal) ≤ thr ∨ thrUp ≤ w (ix4 n y x p) := by
  rw [← ofBits_thr, ← ofBits_thrUp]
  unfold apartAt at h
  revert h
  pointwise
  exact one_or

/-- The precondition is of the weights. -/
theorem clear_of_weights (v : Verts) (a1 : IVec S2304x3 32) (a2 a3 : FVec Ideal S1152x12 .f32) (a4 : FVec Ideal S1152x64 .f32) :
    ∃ w : FVec Ideal S4x64x64x1152 .f32, (∀ n y x p, w (ix4 n y x p) = wAt v n y x p) ∧ fn (F := Ideal) v a1 a2 a3 a4 = (fallsAt (eleven w), apartAt w) := by
  have hg := linspace_entry
  unfold fn fn_part1 fn_part2
  refine ⟨_, ?_, rfl⟩
  intro n y x p
  unfold wAt weight dist2
  rw [← hg, ← hg, ← ofBits_neg150]
  unfold proj
  pointwise

/-- What the precondition says of the weights. -/
theorem clear_of_pre (v : Verts) (a1 : IVec S2304x3 32) (a2 a3 : FVec Ideal S1152x12 .f32) (a4 : FVec Ideal S1152x64 .f32)
    (h : (fn (F := Ideal) v a1 a2 a3 a4).1 = (fun _ => 1#1) ∧ (fn (F := Ideal) v a1 a2 a3 a4).2 = (fun _ => 1#1)) : Clear v := by
  obtain ⟨w, hw, e⟩ := clear_of_weights v a1 a2 a3 a4
  rw [e] at h
  intro n y x
  have hz : ∀ l : Fin 11, (eleven w (ix4 n y x l) : EReal) = wAt v n y x (order (wAt v n y x) ⟨l.val, by omega⟩) := by
    intro l
    refine (topK_value w _ (by decide) n y x l).trans ?_
    rw [hw, show (fun p => w (ix4 n y x p)) = wAt v n y x from funext fun p => hw n y x p]
  refine ⟨order_injective _, order_surjective _, order_anti _, fun p => weight_nonneg _ _ _ _, fun i hi j hj => ?_, fun p => ?_, thr_lt_thrUp⟩
  · have f := falls_entry _ n y x ⟨i.val, hi⟩ (congrFun h.1 _)
    rw [hz, hz] at f
    rw [show j = ⟨1 + i.val, by have := j.isLt; omega⟩ from Fin.ext (hj.trans (Nat.add_comm _ _))]
    exact f
  · have f := apart_entry _ n y x p (congrFun h.2 _)
    rw [hw] at f
    exact f

end Cert.Rasterize

end
-- ==== Proof.Equation.lean ====
/- The equation: the kernel and the reference leave the same six results, where the precondition holds of the arguments. -/
module

public import proofs.«01_k».proof.Proof.Frames
public import proofs.«01_k».proof.Proof.KernelRun
public import proofs.«01_k».proof.Proof.RefResults
public import proofs.«01_k».proof.Proof.RefVisible
public import proofs.«01_k».proof.Proof.RefRun
public import proofs.«01_k».proof.Proof.Clear

@[expose] public section

noncomputable section

namespace Cert.Rasterize

open Idealize.ShloMosaic Idealize.ShloMosaic.TcCoe Idealize.SL.Sem

/-- The results as functions of the five arguments: the reference's six results are the kernel's. -/
theorem ref_results (m : (ℓ : Loc KernelIdeal.nD KernelIdeal.τ KernelIdeal.sig) → Buf (Elt Ideal) ℓ) (c : Dev KernelIdeal.nD)
    (V : Valuation ReferenceIdeal.τ ReferenceIdeal.sig (Elt Ideal))
    (h0 : (V (Proc.devRef .tc ReferenceIdeal.main_arg0) : KernelIdeal.S4x1152x3.Idx → EReal) = m (c.tc.loc KernelIdeal.main_arg0))
    (h2 : (V (Proc.devRef .tc ReferenceIdeal.main_arg2) : KernelIdeal.S1152x12.Idx → EReal) = m (c.tc.loc KernelIdeal.main_arg2))
    (h3 : (V (Proc.devRef .tc ReferenceIdeal.main_arg3) : KernelIdeal.S1152x12.Idx → EReal) = m (c.tc.loc KernelIdeal.main_arg3))
    (h4 : (V (Proc.devRef .tc ReferenceIdeal.main_arg4) : KernelIdeal.S1152x64.Idx → EReal) = m (c.tc.loc KernelIdeal.main_arg4))
    (hv : Clear (verts m c)) :
    (ReferenceIdeal.Value.val4 V (Proc.devRef .tc ReferenceIdeal.main_v49) : KernelIdeal.S4x224x224.Idx → EReal) = array9 m c
    ∧ (ReferenceIdeal.Value.val4 V (Proc.devRef .tc ReferenceIdeal.main_v51) : KernelIdeal.S4x64x64.Idx → EReal) = cover (verts m c)
    ∧ (ReferenceIdeal.Value.val4 V (Proc.devRef .tc ReferenceIdeal.main_v102) : KernelIdeal.S4x12x224x224.Idx → EReal) = array6 m c
    ∧ (ReferenceIdeal.Value.val4 V (Proc.devRef .tc ReferenceIdeal.main_v147) : KernelIdeal.S4x64x224x224.Idx → EReal) = array8 m c
    ∧ (ReferenceIdeal.Value.val4 V (Proc.devRef .tc ReferenceIdeal.main_v81) : KernelIdeal.S4x1152.Idx → BitVec 32) = seen (verts m c)
    ∧ (ReferenceIdeal.Value.val4 V (Proc.devRef .tc ReferenceIdeal.main_v126) : KernelIdeal.S4x12x224x224.Idx → EReal) = array7 m c := by
  have e : vertsOf V = verts m c := h0
  have hv' : Clear (vertsOf V) := e ▸ hv
  refine ⟨?_, ?_, ?_, ?_, ?_, ?_⟩
  · funext j
    idx_vars j
    refine (ref_mask V hv' j0 j1 j2).trans ?_
    rw [e]
    rfl
  · funext j
    idx_vars j
    refine (ref_cover V hv' j0 j1 j2).trans ?_
    rw [e]
    rfl
  · funext j
    idx_vars j
    refine (ref_part V hv' j0 j1 j2 j3).trans ?_
    rw [e, h3]
    rfl
  · funext j
    idx_vars j
    refine (ref_normed V hv' j0 j1 j2 j3).trans ?_
    rw [e, h4]
    rfl
  · funext j
    idx_vars j
    refine (ref_seen V hv' j0 j1).trans ?_
    rw [e]
    rfl
  · funext j
    idx_vars j
    refine (ref_soft V hv' j0 j1 j2 j3).trans ?_
    rw [e, h2]
    rfl

/-- The kernel and the reference leave the same results. -/
theorem kernel_eq_reference : Cert.algebraic_KernelIdeal_ReferenceIdeal_pre_clear := by
  intro m g m' g' hpre hargs
  refine ⟨fun c => array9 m c, fun c => cover (verts m c), fun c => array6 m c, fun c => array8 m c, fun c => seen (verts m c), fun c => array7 m c,
    kernel_run m g, ?_⟩
  refine (θ_run ReferenceIdeal.defs _ _).mono (fun r h c => ?_) (reference_run m' g')
  obtain ⟨r0, r1, r2, r3, r4, r5, rest⟩ := h c
  obtain ⟨a0, -, a2, a3, a4⟩ := hargs c
  obtain ⟨s0, s1, s2, s3, s4, s5⟩ := ref_results m c (StableHlo.launchContents m' c) a0 a2 a3 a4 (clear_of_pre _ _ _ _ _ (hpre c))
  exact ⟨r0.trans s0, r1.trans s1, r2.trans s2, r3.trans s3, r4.trans s4, r5.trans s5, rest⟩

end Cert.Rasterize

end
-- ==== Proof.lean ====
/- The assembly of the claims: frames, the named constant, and the values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Rasterize.clearFacts,
    Cert.Rasterize.frame_kernel, Cert.Rasterize.frame_kernelIdeal, fun m g _ => Cert.Rasterize.frame_kernelIdeal m g trivial,
    Cert.Rasterize.frame_referenceIdeal, fun m g _ => Cert.Rasterize.frame_referenceIdeal m g trivial,
    Cert.Rasterize.preserves_scale, Cert.Rasterize.kernel_eq_reference⟩

end Cert.Proof

end
